-- ==== Defs.lean ====
def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8)
      ∧ r.2.mem ((c.tc : Thread Cert.Kernel1.nD Cert.Kernel1.τ).loc Cert.Kernel1.main_arg9) = m ((c.tc : Thread Cert.Kernel1.nD Cert.Kernel1.τ).loc Cert.Kernel1.main_arg9))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel1_Kernel1Ideal : Prop :=
  IdealRules.named_const.Statement Cert.Kernel1Ideal.κ "key_scale" .f32 0x3DB504F3#32 (((Real.sqrt 128)⁻¹ : ℝ) : EReal)

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)
      ∧ m' ((c.tc : Thread Cert.Reference1Ideal.nD Cert.Reference1Ideal.τ).loc Cert.Reference1Ideal.main_arg9) = m ((c.tc : Thread Cert.Kernel1Ideal.nD Cert.Kernel1Ideal.τ).loc Cert.Kernel1Ideal.main_arg9)) →
    ∃ (v0 : (c : Dev Cert.Kernel1Ideal.nD) → Buf (Elt Ideal) ((c.tc : Thread Cert.Kernel1Ideal.nD Cert.Kernel1Ideal.τ).loc Cert.Kernel1Ideal.main_v0_0)) (v1 : (c : Dev Cert.Kernel1Ideal.nD) → Buf (Elt Ideal) ((c.tc : Thread Cert.Kernel1Ideal.nD Cert.Kernel1Ideal.τ).loc Cert.Kernel1Ideal.main_v0_1)) (v2 : (c : Dev Cert.Kernel1Ideal.nD) → Buf (Elt Ideal) ((c.tc : Thread Cert.Kernel1Ideal.nD Cert.Kernel1Ideal.τ).loc Cert.Kernel1Ideal.main_v0_2)) (v3 : (c : Dev Cert.Kernel1Ideal.nD) → Buf (Elt Ideal) ((c.tc : Thread Cert.Kernel1Ideal.nD Cert.Kernel1Ideal.τ).loc Cert.Kernel1Ideal.main_v0_3)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v0_0) = v0 c
          ∧ r.2.mem ((c.tc : Thread Cert.Kernel1Ideal.nD Cert.Kernel1Ideal.τ).loc Cert.Kernel1Ideal.main_v0_1) = v1 c
          ∧ r.2.mem ((c.tc : Thread Cert.Kernel1Ideal.nD Cert.Kernel1Ideal.τ).loc Cert.Kernel1Ideal.main_v0_2) = v2 c
          ∧ r.2.mem ((c.tc : Thread Cert.Kernel1Ideal.nD Cert.Kernel1Ideal.τ).loc Cert.Kernel1Ideal.main_v0_3) = v3 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
          ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v142) = v0 c
          ∧ r.2.mem ((c.tc : Thread Cert.Reference1Ideal.nD Cert.Reference1Ideal.τ).loc Cert.Reference1Ideal.main_v144) = v1 c
          ∧ r.2.mem ((c.tc : Thread Cert.Reference1Ideal.nD Cert.Reference1Ideal.τ).loc Cert.Reference1Ideal.main_v146) = v2 c
          ∧ r.2.mem ((c.tc : Thread Cert.Reference1Ideal.nD Cert.Reference1Ideal.τ).loc Cert.Reference1Ideal.main_v141) = v3 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8)
          ∧ r.2.mem ((c.tc : Thread Cert.Reference1Ideal.nD Cert.Reference1Ideal.τ).loc Cert.Reference1Ideal.main_arg9) = m' ((c.tc : Thread Cert.Reference1Ideal.nD Cert.Reference1Ideal.τ).loc Cert.Reference1Ideal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "key_scale" .f32 0x3DB504F3#32 (((Real.sqrt 128)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v111) = v0 c
          ∧ r.2.mem ((c.tc : Thread Cert.Reference3Ideal.nD Cert.Reference3Ideal.τ).loc Cert.Reference3Ideal.main_v109) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel1 (hKernel1 := hKernel1)
    ∧ quiescent_Kernel1Ideal (hKernel1Ideal := hKernel1Ideal)
    ∧ quiescent_Reference1Ideal (hReference1Ideal := hReference1Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel1_Kernel1Ideal
    ∧ algebraic_Kernel1Ideal_Reference1Ideal (hKernel1Ideal := hKernel1Ideal) (hReference1Ideal := hReference1Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel1.lean ====
abbrev S32768x1024 : Shape := ⟨2, ![32768, 1024]⟩
abbrev S24x9x1x1024 : Shape := ⟨4, ![24, 9, 1, 1024]⟩
abbrev S6x1x1024 : Shape := ⟨3, ![6, 1, 1024]⟩
abbrev S1024x5632 : Shape := ⟨2, ![1024, 5632]⟩
abbrev S2816x1024 : Shape := ⟨2, ![2816, 1024]⟩
abbrev S1024x1536 : Shape := ⟨2, ![1024, 1536]⟩
abbrev S1024x2048 : Shape := ⟨2, ![1024, 2048]⟩
abbrev S16x1024 : Shape := ⟨2, ![16, 1024]⟩
abbrev S16x1 : Shape := ⟨2, ![16, 1]⟩
abbrev S3x1x512 : Shape := ⟨3, ![3, 1, 512]⟩
abbrev S32768x512 : Shape := ⟨2, ![32768, 512]⟩
abbrev S32768x2048 : Shape := ⟨2, ![32768, 2048]⟩
abbrev S16x16x2048 : Shape := ⟨3, ![16, 16, 2048]⟩
abbrev S512x1024 : Shape := ⟨2, ![512, 1024]⟩
abbrev S1x9x1x1024 : Shape := ⟨4, ![1, 9, 1, 1024]⟩
abbrev S512x512 : Shape := ⟨2, ![512, 512]⟩
abbrev S512x2048 : Shape := ⟨2, ![512, 2048]⟩
abbrev S1x16x512 : Shape := ⟨3, ![1, 16, 512]⟩
abbrev S1x1x1024 : Shape := ⟨3, ![1, 1, 1024]⟩
abbrev S1x1024 : Shape := ⟨2, ![1, 1024]⟩
abbrev S1x1x1x1024 : Shape := ⟨4, ![1, 1, 1, 1024]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S512x256 : Shape := ⟨2, ![512, 256]⟩
abbrev S256x1024 : Shape := ⟨2, ![256, 1024]⟩
abbrev S1x1x512 : Shape := ⟨3, ![1, 1, 512]⟩
abbrev S1x512 : Shape := ⟨2, ![1, 512]⟩
abbrev S16x512 : Shape := ⟨2, ![16, 512]⟩
abbrev S8x512 : Shape := ⟨2, ![8, 512]⟩

abbrev nBuf : Space → Nat
  | .hbm => 14
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S24x9x1x1024, .f32⟩
  | .hbm, ⟨2, _⟩ => ⟨S6x1x1024, .f32⟩
  | .hbm, ⟨3, _⟩ => ⟨S1024x5632, .bf16⟩
  | .hbm, ⟨4, _⟩ => ⟨S2816x1024, .bf16⟩
  | .hbm, ⟨5, _⟩ => ⟨S1024x1536, .bf16⟩
  | .hbm, ⟨6, _⟩ => ⟨S1024x2048, .bf16⟩
  | .hbm, ⟨7, _⟩ => ⟨S16x1024, .bf16⟩
  | .hbm, ⟨8, _⟩ => ⟨S16x1, .f32⟩
  | .hbm, ⟨9, _⟩ => ⟨S3x1x512, .f32⟩
  | .hbm, ⟨10, _⟩ => ⟨S32768x1024, .f32⟩
  | .hbm, ⟨11, _⟩ => ⟨S32768x512, .bf16⟩
  | .hbm, ⟨12, _⟩ => ⟨S32768x2048, .bf16⟩
  | .hbm, ⟨13, _⟩ => ⟨S16x16x2048, .f32⟩
  | .local _ .vmem, ⟨0, _⟩ => ⟨S512x1024, .f32⟩
  | .local _ .vmem, ⟨1, _⟩ => ⟨S512x1024, .f32⟩
  | .local _ .vmem, ⟨2, _⟩ => ⟨S1x9x1x1024, .f32⟩
  | .local _ .vmem, ⟨3, _⟩ => ⟨S1x9x1x1024, .f32⟩
  | .local _ .vmem, ⟨4, _⟩ => ⟨S6x1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1024x1536, .bf16⟩
  | .local _ .vmem, ⟨8, _⟩ => ⟨S1024x2048, .bf16⟩
  | .local _ .vmem, ⟨9, _⟩ => ⟨S16x1024, .bf16⟩
  | .local _ .vmem, ⟨10, _⟩ => ⟨S16x1, .f32⟩
  | .local _ .vmem, ⟨11, _⟩ => ⟨S3x1x512, .f32⟩
  | .local _ .vmem, ⟨12, _⟩ => ⟨S512x1024, .f32⟩
  | .local _ .vmem, ⟨13, _⟩ => ⟨S512x1024, .f32⟩
  | .local _ .vmem, ⟨14, _⟩ => ⟨S512x512, .bf16⟩
  | .local _ .vmem, ⟨15, _⟩ => ⟨S512x512, .bf16⟩
  | .local _ .vmem, ⟨16, _⟩ => ⟨S512x2048, .bf16⟩
  | .local _ .vmem, ⟨17, _⟩ => ⟨S512x2048, .bf16⟩
  | .local _ .vmem, ⟨18, _⟩ => ⟨S1x16x512, .f32⟩
  | .local _ .vmem, ⟨19, _⟩ => ⟨S1x16x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel1Ideal.lean ====
variable {F : FTy → Type} [FloatOps F] [Named F]
def κ : String → Option EReal := fun
  | "key_scale" => some (((Real.sqrt 128)⁻¹ : ℝ) : EReal)
  | _ => none
-- ==== Reference1Ideal.lean ====
abbrev S32768x1024 : Shape := ⟨2, ![32768, 1024]⟩
abbrev S24x9x1x1024 : Shape := ⟨4, ![24, 9, 1, 1024]⟩
abbrev S6x1x1024 : Shape := ⟨3, ![6, 1, 1024]⟩
abbrev S1024x5632 : Shape := ⟨2, ![1024, 5632]⟩
abbrev S2816x1024 : Shape := ⟨2, ![2816, 1024]⟩
abbrev S1024x1536 : Shape := ⟨2, ![1024, 1536]⟩
abbrev S1024x2048 : Shape := ⟨2, ![1024, 2048]⟩
abbrev S16x1024 : Shape := ⟨2, ![16, 1024]⟩
abbrev S16x1 : Shape := ⟨2, ![16, 1]⟩
abbrev S3x1x512 : Shape := ⟨3, ![3, 1, 512]⟩
abbrev S16x2048x1024 : Shape := ⟨3, ![16, 2048, 1024]⟩
abbrev S16x9x1x1024 : Shape := ⟨4, ![16, 9, 1, 1024]⟩
abbrev S16x9x1024 : Shape := ⟨3, ![16, 9, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x5632 : Shape := ⟨3, ![16, 2048, 5632]⟩
abbrev S16x2048x2816 : Shape := ⟨3, ![16, 2048, 2816]⟩
abbrev S16x2048x1536 : Shape := ⟨3, ![16, 2048, 1536]⟩
abbrev S16x2048x512 : Shape := ⟨3, ![16, 2048, 512]⟩
abbrev S3x512 : Shape := ⟨2, ![3, 512]⟩
abbrev S16x32x64x512 : Shape := ⟨4, ![16, 32, 64, 512]⟩
abbrev S16x32x66x512 : Shape := ⟨4, ![16, 32, 66, 512]⟩
abbrev S1x512 : Shape := ⟨2, ![1, 512]⟩
abbrev S512 : Shape := ⟨1, ![512]⟩
abbrev S1x1x1x512 : Shape := ⟨4, ![1, 1, 1, 512]⟩
abbrev S16x2048x2048 : Shape := ⟨3, ![16, 2048, 2048]⟩
abbrev S1024x16 : Shape := ⟨2, ![1024, 16]⟩
abbrev S16x2048x16 : Shape := ⟨3, ![16, 2048, 16]⟩
abbrev S16 : Shape := ⟨1, ![16]⟩
abbrev S1x1x16 : Shape := ⟨3, ![1, 1, 16]⟩
abbrev S16x16x2048 : Shape := ⟨3, ![16, 16, 2048]⟩
abbrev S16x8x2048 : Shape := ⟨3, ![16, 8, 2048]⟩
abbrev S32768x512 : Shape := ⟨2, ![32768, 512]⟩
abbrev S32768x2048 : Shape := ⟨2, ![32768, 2048]⟩

abbrev nBuf : Space → Nat
  | .hbm => 195
  | .vmem => 0
  | .smem => 0
  | _ => 0

abbrev hbmTy0_0 (i : Nat) : BufTy := match i % 128 with
  | 0 => ⟨S32768x1024, .f32⟩
  | 1 => ⟨S24x9x1x1024, .f32⟩
  | 2 => ⟨S6x1x1024, .f32⟩
  | 3 => ⟨S1024x5632, .bf16⟩
  | 4 => ⟨S2816x1024, .bf16⟩
  | 5 => ⟨S1024x1536, .bf16⟩
  | 6 => ⟨S1024x2048, .bf16⟩
  | 7 => ⟨S16x1024, .bf16⟩
  | 8 => ⟨S16x1, .f32⟩
  | 9 => ⟨S3x1x512, .f32⟩
  | 10 => ⟨S16x2048x1024, .f32⟩
  | 11 => ⟨S16x9x1x1024, .f32⟩
  | 12 => ⟨S16x9x1024, .f32⟩
  | 13 => ⟨S6x1024, .f32⟩
  | 14 => ⟨S1x1024, .f32⟩
  | 15 => ⟨S1024, .f32⟩
  | 16 => ⟨S16x2048x1024, .f32⟩
  | 17 => ⟨S_, .f32⟩
  | 18 => ⟨S16x2048, .f32⟩
  | 19 => ⟨S16x2048x1, .f32⟩
  | 20 => ⟨S_, .f32⟩
  | 21 => ⟨S16x2048x1, .f32⟩
  | 22 => ⟨S16x2048x1, .f32⟩
  | 23 => ⟨S_, .f32⟩
  | 24 => ⟨S16x2048x1, .f32⟩
  | 25 => ⟨S16x2048x1, .f32⟩
  | 26 => ⟨S16x2048x1, .f32⟩
  | 27 => ⟨S16x2048x1024, .f32⟩
  | 28 => ⟨S16x2048x1024, .f32⟩
  | 29 => ⟨S1x1x1024, .f32⟩
  | 30 => ⟨S16x2048x1024, .f32⟩
  | 31 => ⟨S16x2048x1024, .f32⟩
  | 32 => ⟨S16x1x1024, .f32⟩
  | 33 => ⟨S16x1024, .f32⟩
  | 34 => ⟨S16x1x1024, .f32⟩
  | 35 => ⟨S_, .f32⟩
  | 36 => ⟨S16x1x1024, .f32⟩
  | 37 => ⟨S16x1x1024, .f32⟩
  | 38 => ⟨S16x2048x1024, .f32⟩
  | 39 => ⟨S16x2048x1024, .f32⟩
  | 40 => ⟨S16x1x1024, .f32⟩
  | 41 => ⟨S16x1024, .f32⟩
  | 42 => ⟨S16x1x1024, .f32⟩
  | 43 => ⟨S16x2048x1024, .f32⟩
  | 44 => ⟨S16x2048x1024, .f32⟩
  | 45 => ⟨S1024x5632, .f32⟩
  | 46 => ⟨S16x2048x5632, .f32⟩
  | 47 => ⟨S16x2048x2816, .f32⟩
  | 48 => ⟨S16x2048x2816, .f32⟩
  | 49 => ⟨S16x1x1024, .f32⟩
  | 50 => ⟨S16x1024, .f32⟩
  | 51 => ⟨S16x1x1024, .f32⟩
  | 52 => ⟨S_, .f32⟩
  | 53 => ⟨S16x1x1024, .f32⟩
  | 54 => ⟨S16x1x1024, .f32⟩
  | 55 => ⟨S16x2048x2816, .f32⟩
  | 56 => ⟨S16x2048x2816, .f32⟩
  | 57 => ⟨S_, .f32⟩
  | 58 => ⟨S16x2048x2816, .f32⟩
  | 59 => ⟨S16x2048x2816, .f32⟩
  | 60 => ⟨S_, .f32⟩
  | 61 => ⟨S16x2048x2816, .f32⟩
  | 62 => ⟨S16x2048x2816, .f32⟩
  | 63 => ⟨S16x2048x2816, .f32⟩
  | 64 => ⟨S16x2048x2816, .f32⟩
  | 65 => ⟨S2816x1024, .f32⟩
  | 66 => ⟨S16x2048x1024, .f32⟩
  | 67 => ⟨S1x1024, .f32⟩
  | 68 => ⟨S1024, .f32⟩
  | 69 => ⟨S16x2048x1024, .f32⟩
  | 70 => ⟨S_, .f32⟩
  | 71 => ⟨S16x2048, .f32⟩
  | 72 => ⟨S16x2048x1, .f32⟩
  | 73 => ⟨S_, .f32⟩
  | 74 => ⟨S16x2048x1, .f32⟩
  | 75 => ⟨S16x2048x1, .f32⟩
  | 76 => ⟨S_, .f32⟩
  | 77 => ⟨S16x2048x1, .f32⟩
  | 78 => ⟨S16x2048x1, .f32⟩
  | 79 => ⟨S16x2048x1, .f32⟩
  | 80 => ⟨S16x2048x1024, .f32⟩
  | 81 => ⟨S16x2048x1024, .f32⟩
  | 82 => ⟨S1x1x1024, .f32⟩
  | 83 => ⟨S16x2048x1024, .f32⟩
  | 84 => ⟨S16x2048x1024, .f32⟩
  | 85 => ⟨S16x2048x1024, .f32⟩
  | 86 => ⟨S16x2048x1024, .f32⟩
  | 87 => ⟨S16x2048x1024, .f32⟩
  | 88 => ⟨S1x1024, .f32⟩
  | 89 => ⟨S1024, .f32⟩
  | 90 => ⟨S16x2048x1024, .f32⟩
  | 91 => ⟨S_, .f32⟩
  | 92 => ⟨S16x2048, .f32⟩
  | 93 => ⟨S16x2048x1, .f32⟩
  | 94 => ⟨S_, .f32⟩
  | 95 => ⟨S16x2048x1, .f32⟩
  | 96 => ⟨S16x2048x1, .f32⟩
  | 97 => ⟨S_, .f32⟩
  | 98 => ⟨S16x2048x1, .f32⟩
  | 99 => ⟨S16x2048x1, .f32⟩
  | 100 => ⟨S16x2048x1, .f32⟩
  | 101 => ⟨S16x2048x1024, .f32⟩
  | 102 => ⟨S16x2048x1024, .f32⟩
  | 103 => ⟨S1x1x1024, .f32⟩
  | 104 => ⟨S16x2048x1024, .f32⟩
  | 105 => ⟨S16x2048x1024, .f32⟩
  | 106 => ⟨S16x1x1024, .f32⟩
  | 107 => ⟨S16x1024, .f32⟩
  | 108 => ⟨S16x1x1024, .f32⟩
  | 109 => ⟨S_, .f32⟩
  | 110 => ⟨S16x1x1024, .f32⟩
  | 111 => ⟨S16x1x1024, .f32⟩
  | 112 => ⟨S16x2048x1024, .f32⟩
  | 113 => ⟨S16x2048x1024, .f32⟩
  | 114 => ⟨S16x1x1024, .f32⟩
  | 115 => ⟨S16x1024, .f32⟩
  | 116 => ⟨S16x1x1024, .f32⟩
  | 117 => ⟨S16x2048x1024, .f32⟩
  | 118 => ⟨S16x2048x1024, .f32⟩
  | 119 => ⟨S1024x1536, .f32⟩
  | 120 => ⟨S16x2048x1536, .f32⟩
  | 121 => ⟨S16x2048x512, .f32⟩
  | 122 => ⟨S16x2048x512, .f32⟩
  | 123 => ⟨S16x2048x512, .f32⟩
  | 124 => ⟨S16x2048x512, .f32⟩
  | 125 => ⟨S3x512, .f32⟩
  | 126 => ⟨S16x32x64x512, .f32⟩
  | 127 => ⟨S_, .i32⟩
  | _ => ⟨S32768x1024, .f32⟩

abbrev hbmTy0_1 (i : Nat) : BufTy := match i % 128 with
  | 0 => ⟨S_, .f32⟩
  | 1 => ⟨S16x32x66x512, .f32⟩
  | 2 => ⟨S1x512, .f32⟩
  | 3 => ⟨S512, .f32⟩
  | 4 => ⟨S16x32x64x512, .f32⟩
  | 5 => ⟨S1x1x1x512, .f32⟩
  | 6 => ⟨S16x32x64x512, .f32⟩
  | 7 => ⟨S16x32x64x512, .f32⟩
  | 8 => ⟨S1x512, .f32⟩
  | 9 => ⟨S512, .f32⟩
  | 10 => ⟨S16x32x64x512, .f32⟩
  | 11 => ⟨S1x1x1x512, .f32⟩
  | 12 => ⟨S16x32x64x512, .f32⟩
  | 13 => ⟨S16x32x64x512, .f32⟩
  | 14 => ⟨S16x32x64x512, .f32⟩
  | 15 => ⟨S1x512, .f32⟩
  | 16 => ⟨S512, .f32⟩
  | 17 => ⟨S16x32x64x512, .f32⟩
  | 18 => ⟨S1x1x1x512, .f32⟩
  | 19 => ⟨S16x32x64x512, .f32⟩
  | 20 => ⟨S16x32x64x512, .f32⟩
  | 21 => ⟨S16x32x64x512, .f32⟩
  | 22 => ⟨S16x2048x512, .f32⟩
  | 23 => ⟨S16x2048x512, .f32⟩
  | 24 => ⟨S1024x2048, .f32⟩
  | 25 => ⟨S16x2048x2048, .f32⟩
  | 26 => ⟨S16x2048x512, .f32⟩
  | 27 => ⟨S16x2048x512, .f32⟩
  | 28 => ⟨S16x2048x512, .f32⟩
  | 29 => ⟨S16x2048x512, .f32⟩
  | 30 => ⟨S_, .f32⟩
  | 31 => ⟨S_, .f32⟩
  | 32 => ⟨S16x2048x512, .f32⟩
  | 33 => ⟨S16x2048x512, .f32⟩
  | 34 => ⟨S16x2048x2048, .f32⟩
  | 35 => ⟨S16x1024, .f32⟩
  | 36 => ⟨S1024x16, .f32⟩
  | 37 => ⟨S16x2048x16, .f32⟩
  | 38 => ⟨S16, .f32⟩
  | 39 => ⟨S1x1x16, .f32⟩
  | 40 => ⟨S16x2048x16, .f32⟩
  | 41 => ⟨S16x2048x16, .f32⟩
  | 42 => ⟨S16x16x2048, .f32⟩
  | 43 => ⟨S16x8x2048, .f32⟩
  | 44 => ⟨S16x8x2048, .f32⟩
  | 45 => ⟨S16x8x2048, .f32⟩
  | 46 => ⟨S_, .f32⟩
  | 47 => ⟨S16x8x2048, .f32⟩
  | 48 => ⟨S16x8x2048, .f32⟩
  | 49 => ⟨S16x8x2048, .f32⟩
  | 50 => ⟨S16x8x2048, .f32⟩
  | 51 => ⟨S16x8x2048, .i1⟩
  | 52 => ⟨S16x8x2048, .f32⟩
  | 53 => ⟨S16x8x2048, .f32⟩
  | 54 => ⟨S16x8x2048, .f32⟩
  | 55 => ⟨S16x8x2048, .f32⟩
  | 56 => ⟨S16x8x2048, .f32⟩
  | 57 => ⟨S16x8x2048, .f32⟩
  | 58 => ⟨S16x8x2048, .f32⟩
  | 59 => ⟨S16x8x2048, .f32⟩
  | 60 => ⟨S16x8x2048, .f32⟩
  | 61 => ⟨S16x16x2048, .f32⟩
  | 62 => ⟨S32768x1024, .f32⟩
  | 63 => ⟨S16x2048x512, .bf16⟩
  | 64 => ⟨S32768x512, .bf16⟩
  | 65 => ⟨S16x2048x2048, .bf16⟩
  | 66 => ⟨S32768x2048, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_4 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_7 : Ref sig .tc := ⟨.hbm, 91, rfl⟩
abbrev main_v65 : Ref sig .tc := ⟨.hbm, 92, rfl⟩
abbrev main_v66 : Ref sig .tc := ⟨.hbm, 93, rfl⟩
abbrev main_cst_8 : Ref sig .tc := ⟨.hbm, 94, rfl⟩
abbrev main_v67 : Ref sig .tc := ⟨.hbm, 95, rfl⟩
abbrev main_v68 : Ref sig .tc := ⟨.hbm, 96, rfl⟩
abbrev main_cst_9 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_10 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c : Ref sig .tc := ⟨.hbm, 127, rfl⟩
abbrev main_call1_v0 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_11 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_call2_v0 : Ref sig .tc := ⟨.hbm, 173, rfl⟩
abbrev main_call2_call0_cst : Ref sig .tc := ⟨.hbm, 174, rfl⟩
abbrev main_call2_call0_v0 : Ref sig .tc := ⟨.hbm, 175, rfl⟩
abbrev main_call2_call0_v1 : Ref sig .tc := ⟨.hbm, 176, rfl⟩
abbrev main_call2_call0_v2 : Ref sig .tc := ⟨.hbm, 177, rfl⟩
abbrev main_call2_call0_v3 : Ref sig .tc := ⟨.hbm, 178, rfl⟩
abbrev main_call2_call0_v4 : Ref sig .tc := ⟨.hbm, 179, rfl⟩
abbrev main_call2_call0_v5 : Ref sig .tc := ⟨.hbm, 180, rfl⟩
abbrev main_call2_call0_v6 : Ref sig .tc := ⟨.hbm, 181, rfl⟩
abbrev main_call2_call0_v7 : Ref sig .tc := ⟨.hbm, 182, rfl⟩
abbrev main_call2_call0_v8 : Ref sig .tc := ⟨.hbm, 183, rfl⟩
abbrev main_call2_call0_v9 : Ref sig .tc := ⟨.hbm, 184, rfl⟩
abbrev main_call2_call0_v10 : Ref sig .tc := ⟨.hbm, 185, rfl⟩
abbrev main_call2_call0_v11 : Ref sig .tc := ⟨.hbm, 186, rfl⟩
abbrev main_call2_v1 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S24x9x1x1024 : Shape := ⟨4, ![24, 9, 1, 1024]⟩
abbrev S6x1x1024 : Shape := ⟨3, ![6, 1, 1024]⟩
abbrev S1024x1024 : Shape := ⟨2, ![1024, 1024]⟩
abbrev S1024x5632 : Shape := ⟨2, ![1024, 5632]⟩
abbrev S2816x1024 : Shape := ⟨2, ![2816, 1024]⟩
abbrev S512x1024 : Shape := ⟨2, ![512, 1024]⟩
abbrev S512x512 : Shape := ⟨2, ![512, 512]⟩
abbrev S1x9x1x1024 : Shape := ⟨4, ![1, 9, 1, 1024]⟩
abbrev S1x1x1x1024 : Shape := ⟨4, ![1, 1, 1, 1024]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S24x9x1x1024, .f32⟩
  | .hbm, ⟨4, _⟩ => ⟨S6x1x1024, .f32⟩
  | .hbm, ⟨5, _⟩ => ⟨S1024x1024, .bf16⟩
  | .hbm, ⟨6, _⟩ => ⟨S1024x5632, .bf16⟩
  | .hbm, ⟨7, _⟩ => ⟨S2816x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x9x1x1024, .f32⟩
  | .local _ .vmem, ⟨7, _⟩ => ⟨S1x9x1x1024, .f32⟩
  | .local _ .vmem, ⟨8, _⟩ => ⟨S6x1x1024, .f32⟩
  | .local _ .vmem, ⟨9, _⟩ => ⟨S1024x1024, .bf16⟩
  | .local _ .vmem, ⟨10, _⟩ => ⟨S1024x5632, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32768x1024 : Shape := ⟨2, ![32768, 1024]⟩
abbrev S32768x512 : Shape := ⟨2, ![32768, 512]⟩
abbrev S24x9x1x1024 : Shape := ⟨4, ![24, 9, 1, 1024]⟩
abbrev S6x1x1024 : Shape := ⟨3, ![6, 1, 1024]⟩
abbrev S1024x1024 : Shape := ⟨2, ![1024, 1024]⟩
abbrev S1024x5632 : Shape := ⟨2, ![1024, 5632]⟩
abbrev S2816x1024 : Shape := ⟨2, ![2816, 1024]⟩
abbrev S16x2048x1024 : Shape := ⟨3, ![16, 2048, 1024]⟩
abbrev S16x9x1x1024 : Shape := ⟨4, ![16, 9, 1, 1024]⟩
abbrev S16x9x1024 : Shape := ⟨3, ![16, 9, 1024]⟩
abbrev S6x1024 : Shape := ⟨2, ![6, 1024]⟩
abbrev S16x1x1024 : Shape := ⟨3, ![16, 1, 1024]⟩
abbrev S16x1024 : Shape := ⟨2, ![16, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩

abbrev nBuf : Space → Nat
  | .hbm => 116
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S24x9x1x1024, .f32⟩
  | .hbm, ⟨4, _⟩ => ⟨S6x1x1024, .f32⟩
  | .hbm, ⟨5, _⟩ => ⟨S1024x1024, .bf16⟩
  | .hbm, ⟨6, _⟩ => ⟨S1024x5632, .bf16⟩
  | .hbm, ⟨7, _⟩ => ⟨S2816x1024, .bf16⟩
  | .hbm, ⟨8, _⟩ => ⟨S16x2048x1024, .f32⟩
  | .hbm, ⟨9, _⟩ => ⟨S32768x1024, .bf16⟩
  | .hbm, ⟨10, _⟩ => ⟨S32768x1024, .f32⟩
  | .hbm, ⟨11, _⟩ => ⟨S16x2048x1024, .f32⟩
  | .hbm, ⟨12, _⟩ => ⟨S16x9x1x1024, .f32⟩
  | .hbm, ⟨13, _⟩ => ⟨S16x9x1024, .f32⟩
  | .hbm, ⟨14, _⟩ => ⟨S6x1024, .f32⟩
  | .hbm, ⟨15, _⟩ => ⟨S16x1x1024, .f32⟩
  | .hbm, ⟨16, _⟩ => ⟨S16x1024, .f32⟩
  | .hbm, ⟨17, _⟩ => ⟨S16x1x1024, .f32⟩
  | .hbm, ⟨18, _⟩ => ⟨S1024x1024, .f32⟩
  | .hbm, ⟨19, _⟩ => ⟨S16x2048x1024, .f32⟩
  | .hbm, ⟨20, _⟩ => ⟨S1x1024, .f32⟩
  | .hbm, ⟨21, _⟩ => ⟨S1024, .f32⟩
  | .hbm, ⟨22, _⟩ => ⟨S16x2048x1024, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S_, .f32⟩
  | .hbm, ⟨30, _⟩ => ⟨S16x2048x1, .f32⟩
  | .hbm, ⟨31, _⟩ => ⟨S16x2048x1, .f32⟩
  | .hbm, ⟨32, _⟩ => ⟨S16x2048x1, .f32⟩
  | .hbm, ⟨33, _⟩ => ⟨S16x2048x1024, .f32⟩
  | .hbm, ⟨34, _⟩ => ⟨S16x2048x1024, .f32⟩
  | .hbm, ⟨35, _⟩ => ⟨S1x1x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S1x1024, .f32⟩
  | .hbm, ⟨42, _⟩ => ⟨S1024, .f32⟩
  | .hbm, ⟨43, _⟩ => ⟨S16x2048x1024, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S16x2048x1, .f32⟩
  | .hbm, ⟨54, _⟩ => ⟨S16x2048x1024, .f32⟩
  | .hbm, ⟨55, _⟩ => ⟨S16x2048x1024, .f32⟩
  | .hbm, ⟨56, _⟩ => ⟨S1x1x1024, .f32⟩
  | .hbm, ⟨57, _⟩ => ⟨S16x2048x1024, .f32⟩
  | .hbm, ⟨58, _⟩ => ⟨S16x2048x1024, .f32⟩
  | .hbm, ⟨59, _⟩ => ⟨S16x1x1024, .f32⟩
  | .hbm, ⟨60, _⟩ => ⟨S16x1024, .f32⟩
  | .hbm, ⟨61, _⟩ => ⟨S16x1x1024, .f32⟩
  | .hbm, ⟨62, _⟩ => ⟨S_, .f32⟩
  | .hbm, ⟨63, _⟩ => ⟨S16x1x1024, .f32⟩
  | .hbm, ⟨64, _⟩ => ⟨S16x1x1024, .f32⟩
  | .hbm, ⟨65, _⟩ => ⟨S16x2048x1024, .f32⟩
  | .hbm, ⟨66, _⟩ => ⟨S16x2048x1024, .f32⟩
  | .hbm, ⟨67, _⟩ => ⟨S16x1x1024, .f32⟩
  | .hbm, ⟨68, _⟩ => ⟨S16x1024, .f32⟩
  | .hbm, ⟨69, _⟩ => ⟨S16x1x1024, .f32⟩
  | .hbm, ⟨70, _⟩ => ⟨S16x2048x1024, .f32⟩
  | .hbm, ⟨71, _⟩ => ⟨S16x2048x1024, .f32⟩
  | .hbm, ⟨72, _⟩ => ⟨S1024x5632, .f32⟩
  | .hbm, ⟨73, _⟩ => ⟨S16x2048x5632, .f32⟩
  | .hbm, ⟨74, _⟩ => ⟨S16x2048x2816, .f32⟩
  | .hbm, ⟨75, _⟩ => ⟨S16x2048x2816, .f32⟩
  | .hbm, ⟨76, _⟩ => ⟨S16x1x1024, .f32⟩
  | .hbm, ⟨77, _⟩ => ⟨S16x1024, .f32⟩
  | .hbm, ⟨78, _⟩ => ⟨S16x1x1024, .f32⟩
  | .hbm, ⟨79, _⟩ => ⟨S_, .f32⟩
  | .hbm, ⟨80, _⟩ => ⟨S16x1x1024, .f32⟩
  | .hbm, ⟨81, _⟩ => ⟨S16x1x1024, .f32⟩
  | .hbm, ⟨82, _⟩ => ⟨S16x2048x2816, .f32⟩
  | .hbm, ⟨83, _⟩ => ⟨S16x2048x2816, .f32⟩
  | .hbm, ⟨84, _⟩ => ⟨S_, .f32⟩
  | .hbm, ⟨85, _⟩ => ⟨S16x2048x2816, .f32⟩
  | .hbm, ⟨86, _⟩ => ⟨S16x2048x2816, .f32⟩
  | .hbm, ⟨87, _⟩ => ⟨S_, .f32⟩
  | .hbm, ⟨88, _⟩ => ⟨S16x2048x2816, .f32⟩
  | .hbm, ⟨89, _⟩ => ⟨S16x2048x2816, .f32⟩
  | .hbm, ⟨90, _⟩ => ⟨S16x2048x2816, .f32⟩
  | .hbm, ⟨91, _⟩ => ⟨S16x2048x2816, .f32⟩
  | .hbm, ⟨92, _⟩ => ⟨S2816x1024, .f32⟩
  | .hbm, ⟨93, _⟩ => ⟨S16x2048x1024, .f32⟩
  | .hbm, ⟨94, _⟩ => ⟨S1x1024, .f32⟩
  | .hbm, ⟨95, _⟩ => ⟨S1024, .f32⟩
  | .hbm, ⟨96, _⟩ => ⟨S16x2048x1024, .f32⟩
  | .hbm, ⟨97, _⟩ => ⟨S_, .f32⟩
  | .hbm, ⟨98, _⟩ => ⟨S16x2048, .f32⟩
  | .hbm, ⟨99, _⟩ => ⟨S16x2048x1, .f32⟩
  | .hbm, ⟨100, _⟩ => ⟨S_, .f32⟩
  | .hbm, ⟨101, _⟩ => ⟨S16x2048x1, .f32⟩
  | .hbm, ⟨102, _⟩ => ⟨S16x2048x1, .f32⟩
  | .hbm, ⟨103, _⟩ => ⟨S_, .f32⟩
  | .hbm, ⟨104, _⟩ => ⟨S16x2048x1, .f32⟩
  | .hbm, ⟨105, _⟩ => ⟨S16x2048x1, .f32⟩
  | .hbm, ⟨106, _⟩ => ⟨S16x2048x1, .f32⟩
  | .hbm, ⟨107, _⟩ => ⟨S16x2048x1024, .f32⟩
  | .hbm, ⟨108, _⟩ => ⟨S16x2048x1024, .f32⟩
  | .hbm, ⟨109, _⟩ => ⟨S1x1x1024, .f32⟩
  | .hbm, ⟨110, _⟩ => ⟨S16x2048x1024, .f32⟩
  | .hbm, ⟨111, _⟩ => ⟨S16x2048x1024, .f32⟩
  | .hbm, ⟨112, _⟩ => ⟨S16x2048x1024, .f32⟩
  | .hbm, ⟨113, _⟩ => ⟨S16x2048x1024, .f32⟩
  | .hbm, ⟨114, _⟩ => ⟨S16x2048x1024, .f32⟩
  | .hbm, ⟨115, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_6 : Ref sig .tc := ⟨.hbm, 79, rfl⟩
abbrev main_v64 : Ref sig .tc := ⟨.hbm, 80, rfl⟩
abbrev main_v65 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_7 : Ref sig .tc := ⟨.hbm, 97, rfl⟩
abbrev main_v73 : Ref sig .tc := ⟨.hbm, 98, rfl⟩
abbrev main_v74 : Ref sig .tc := ⟨.hbm, 99, rfl⟩
abbrev main_cst_8 : Ref sig .tc := ⟨.hbm, 100, rfl⟩
abbrev main_v75 : Ref sig .tc := ⟨.hbm, 101, rfl⟩
abbrev main_v76 : Ref sig .tc := ⟨.hbm, 102, rfl⟩
abbrev main_cst_9 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]
-- ==== Kernel3.lean ====
abbrev S4096x1024 : Shape := ⟨2, ![4096, 1024]⟩
abbrev S24x9x1x1024 : Shape := ⟨4, ![24, 9, 1, 1024]⟩
abbrev S6x1x1024 : Shape := ⟨3, ![6, 1, 1024]⟩
abbrev S1024x5632 : Shape := ⟨2, ![1024, 5632]⟩
abbrev S2816x1024 : Shape := ⟨2, ![2816, 1024]⟩
abbrev S1024x1024 : Shape := ⟨2, ![1024, 1024]⟩
abbrev S16x1024 : Shape := ⟨2, ![16, 1024]⟩
abbrev S16x1 : Shape := ⟨2, ![16, 1]⟩
abbrev S16x16x256 : Shape := ⟨3, ![16, 16, 256]⟩
abbrev S256x1024 : Shape := ⟨2, ![256, 1024]⟩
abbrev S1x9x1x1024 : Shape := ⟨4, ![1, 9, 1, 1024]⟩
abbrev S1x16x256 : Shape := ⟨3, ![1, 16, 256]⟩
abbrev S1x1x1024 : Shape := ⟨3, ![1, 1, 1024]⟩
abbrev S1x1024 : Shape := ⟨2, ![1, 1024]⟩
abbrev S1x1x1x1024 : Shape := ⟨4, ![1, 1, 1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩
abbrev S1024x256 : Shape := ⟨2, ![1024, 256]⟩
abbrev S256x256 : Shape := ⟨2, ![256, 256]⟩
abbrev S16x256 : Shape := ⟨2, ![16, 256]⟩
abbrev S8x256 : Shape := ⟨2, ![8, 256]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S24x9x1x1024, .f32⟩
  | .hbm, ⟨2, _⟩ => ⟨S6x1x1024, .f32⟩
  | .hbm, ⟨3, _⟩ => ⟨S1024x5632, .bf16⟩
  | .hbm, ⟨4, _⟩ => ⟨S2816x1024, .bf16⟩
  | .hbm, ⟨5, _⟩ => ⟨S1024x1024, .bf16⟩
  | .hbm, ⟨6, _⟩ => ⟨S16x1024, .bf16⟩
  | .hbm, ⟨7, _⟩ => ⟨S16x1, .f32⟩
  | .hbm, ⟨8, _⟩ => ⟨S4096x1024, .bf16⟩
  | .hbm, ⟨9, _⟩ => ⟨S16x16x256, .f32⟩
  | .local _ .vmem, ⟨0, _⟩ => ⟨S256x1024, .f32⟩
  | .local _ .vmem, ⟨1, _⟩ => ⟨S256x1024, .f32⟩
  | .local _ .vmem, ⟨2, _⟩ => ⟨S1x9x1x1024, .f32⟩
  | .local _ .vmem, ⟨3, _⟩ => ⟨S6x1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1024x1024, .bf16⟩
  | .local _ .vmem, ⟨7, _⟩ => ⟨S16x1024, .bf16⟩
  | .local _ .vmem, ⟨8, _⟩ => ⟨S16x1, .f32⟩
  | .local _ .vmem, ⟨9, _⟩ => ⟨S256x1024, .bf16⟩
  | .local _ .vmem, ⟨10, _⟩ => ⟨S256x1024, .bf16⟩
  | .local _ .vmem, ⟨11, _⟩ => ⟨S1x16x256, .f32⟩
  | .local _ .vmem, ⟨12, _⟩ => ⟨S1x16x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let c0_i32 : BitVec 32 := 0#32
  let c0_i32_0 : BitVec 32 := 0#32
  let c0_i32_1 : BitVec 32 := 0#32
  let c0_i32_2 : BitVec 32 := 0#32
  ![c16_i32.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x9x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel3Ideal.lean ====
variable {F : FTy → Type} [FloatOps F] [Named F]
def κ : String → Option EReal := fun
  | "key_scale" => some (((Real.sqrt 128)⁻¹ : ℝ) : EReal)
  | _ => none
-- ==== Reference3Ideal.lean ====
abbrev S4096x1024 : Shape := ⟨2, ![4096, 1024]⟩
abbrev S24x9x1x1024 : Shape := ⟨4, ![24, 9, 1, 1024]⟩
abbrev S6x1x1024 : Shape := ⟨3, ![6, 1, 1024]⟩
abbrev S1024x5632 : Shape := ⟨2, ![1024, 5632]⟩
abbrev S2816x1024 : Shape := ⟨2, ![2816, 1024]⟩
abbrev S1024x1024 : Shape := ⟨2, ![1024, 1024]⟩
abbrev S16x1024 : Shape := ⟨2, ![16, 1024]⟩
abbrev S16x1 : Shape := ⟨2, ![16, 1]⟩
abbrev S16x256x1024 : Shape := ⟨3, ![16, 256, 1024]⟩
abbrev S1x9x1x1024 : Shape := ⟨4, ![1, 9, 1, 1024]⟩
abbrev S9x1x1024 : Shape := ⟨3, ![9, 1, 1024]⟩
abbrev S9x1024 : Shape := ⟨2, ![9, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x5632 : Shape := ⟨3, ![16, 256, 5632]⟩
abbrev S16x256x2816 : Shape := ⟨3, ![16, 256, 2816]⟩
abbrev S16x256x512 : Shape := ⟨3, ![16, 256, 512]⟩
abbrev S1024x16 : Shape := ⟨2, ![1024, 16]⟩
abbrev S16x256x16 : Shape := ⟨3, ![16, 256, 16]⟩
abbrev S16 : Shape := ⟨1, ![16]⟩
abbrev S1x1x16 : Shape := ⟨3, ![1, 1, 16]⟩
abbrev S16x16x256 : Shape := ⟨3, ![16, 16, 256]⟩
abbrev S16x8x256 : Shape := ⟨3, ![16, 8, 256]⟩

abbrev nBuf : Space → Nat
  | .hbm => 156
  | .vmem => 0
  | .smem => 0
  | _ => 0

abbrev hbmTy0_0 (i : Nat) : BufTy := match i % 128 with
  | 0 => ⟨S4096x1024, .f32⟩
  | 1 => ⟨S24x9x1x1024, .f32⟩
  | 2 => ⟨S6x1x1024, .f32⟩
  | 3 => ⟨S1024x5632, .bf16⟩
  | 4 => ⟨S2816x1024, .bf16⟩
  | 5 => ⟨S1024x1024, .bf16⟩
  | 6 => ⟨S16x1024, .bf16⟩
  | 7 => ⟨S16x1, .f32⟩
  | 8 => ⟨S16x256x1024, .f32⟩
  | 9 => ⟨S1x9x1x1024, .f32⟩
  | 10 => ⟨S9x1x1024, .f32⟩
  | 11 => ⟨S9x1024, .f32⟩
  | 12 => ⟨S6x1024, .f32⟩
  | 13 => ⟨S1x1024, .f32⟩
  | 14 => ⟨S1024, .f32⟩
  | 15 => ⟨S16x256x1024, .f32⟩
  | 16 => ⟨S_, .f32⟩
  | 17 => ⟨S16x256, .f32⟩
  | 18 => ⟨S16x256x1, .f32⟩
  | 19 => ⟨S_, .f32⟩
  | 20 => ⟨S16x256x1, .f32⟩
  | 21 => ⟨S16x256x1, .f32⟩
  | 22 => ⟨S_, .f32⟩
  | 23 => ⟨S16x256x1, .f32⟩
  | 24 => ⟨S16x256x1, .f32⟩
  | 25 => ⟨S16x256x1, .f32⟩
  | 26 => ⟨S16x256x1024, .f32⟩
  | 27 => ⟨S16x256x1024, .f32⟩
  | 28 => ⟨S1x1x1024, .f32⟩
  | 29 => ⟨S16x256x1024, .f32⟩
  | 30 => ⟨S16x256x1024, .f32⟩
  | 31 => ⟨S1x1024, .f32⟩
  | 32 => ⟨S1024, .f32⟩
  | 33 => ⟨S_, .f32⟩
  | 34 => ⟨S1024, .f32⟩
  | 35 => ⟨S1024, .f32⟩
  | 36 => ⟨S1x1x1024, .f32⟩
  | 37 => ⟨S16x256x1024, .f32⟩
  | 38 => ⟨S16x256x1024, .f32⟩
  | 39 => ⟨S1x1024, .f32⟩
  | 40 => ⟨S1024, .f32⟩
  | 41 => ⟨S1x1x1024, .f32⟩
  | 42 => ⟨S16x256x1024, .f32⟩
  | 43 => ⟨S16x256x1024, .f32⟩
  | 44 => ⟨S1024x5632, .f32⟩
  | 45 => ⟨S16x256x5632, .f32⟩
  | 46 => ⟨S16x256x2816, .f32⟩
  | 47 => ⟨S16x256x2816, .f32⟩
  | 48 => ⟨S1x1024, .f32⟩
  | 49 => ⟨S1024, .f32⟩
  | 50 => ⟨S_, .f32⟩
  | 51 => ⟨S1024, .f32⟩
  | 52 => ⟨S1024, .f32⟩
  | 53 => ⟨S16x256x2816, .f32⟩
  | 54 => ⟨S16x256x2816, .f32⟩
  | 55 => ⟨S_, .f32⟩
  | 56 => ⟨S16x256x2816, .f32⟩
  | 57 => ⟨S16x256x2816, .f32⟩
  | 58 => ⟨S_, .f32⟩
  | 59 => ⟨S16x256x2816, .f32⟩
  | 60 => ⟨S16x256x2816, .f32⟩
  | 61 => ⟨S16x256x2816, .f32⟩
  | 62 => ⟨S16x256x2816, .f32⟩
  | 63 => ⟨S2816x1024, .f32⟩
  | 64 => ⟨S16x256x1024, .f32⟩
  | 65 => ⟨S1x1024, .f32⟩
  | 66 => ⟨S1024, .f32⟩
  | 67 => ⟨S16x256x1024, .f32⟩
  | 68 => ⟨S_, .f32⟩
  | 69 => ⟨S16x256, .f32⟩
  | 70 => ⟨S16x256x1, .f32⟩
  | 71 => ⟨S_, .f32⟩
  | 72 => ⟨S16x256x1, .f32⟩
  | 73 => ⟨S16x256x1, .f32⟩
  | 74 => ⟨S_, .f32⟩
  | 75 => ⟨S16x256x1, .f32⟩
  | 76 => ⟨S16x256x1, .f32⟩
  | 77 => ⟨S16x256x1, .f32⟩
  | 78 => ⟨S16x256x1024, .f32⟩
  | 79 => ⟨S16x256x1024, .f32⟩
  | 80 => ⟨S1x1x1024, .f32⟩
  | 81 => ⟨S16x256x1024, .f32⟩
  | 82 => ⟨S16x256x1024, .f32⟩
  | 83 => ⟨S1x1x1024, .f32⟩
  | 84 => ⟨S16x256x1024, .f32⟩
  | 85 => ⟨S16x256x1024, .f32⟩
  | 86 => ⟨S16x256x1024, .f32⟩
  | 87 => ⟨S1x1024, .f32⟩
  | 88 => ⟨S1024, .f32⟩
  | 89 => ⟨S16x256x1024, .f32⟩
  | 90 => ⟨S_, .f32⟩
  | 91 => ⟨S16x256, .f32⟩
  | 92 => ⟨S16x256x1, .f32⟩
  | 93 => ⟨S_, .f32⟩
  | 94 => ⟨S16x256x1, .f32⟩
  | 95 => ⟨S16x256x1, .f32⟩
  | 96 => ⟨S_, .f32⟩
  | 97 => ⟨S16x256x1, .f32⟩
  | 98 => ⟨S16x256x1, .f32⟩
  | 99 => ⟨S16x256x1, .f32⟩
  | 100 => ⟨S16x256x1024, .f32⟩
  | 101 => ⟨S16x256x1024, .f32⟩
  | 102 => ⟨S1x1x1024, .f32⟩
  | 103 => ⟨S16x256x1024, .f32⟩
  | 104 => ⟨S16x256x1024, .f32⟩
  | 105 => ⟨S1x1024, .f32⟩
  | 106 => ⟨S1024, .f32⟩
  | 107 => ⟨S_, .f32⟩
  | 108 => ⟨S1024, .f32⟩
  | 109 => ⟨S1024, .f32⟩
  | 110 => ⟨S1x1x1024, .f32⟩
  | 111 => ⟨S16x256x1024, .f32⟩
  | 112 => ⟨S16x256x1024, .f32⟩
  | 113 => ⟨S1x1024, .f32⟩
  | 114 => ⟨S1024, .f32⟩
  | 115 => ⟨S1x1x1024, .f32⟩
  | 116 => ⟨S16x256x1024, .f32⟩
  | 117 => ⟨S16x256x1024, .f32⟩
  | 118 => ⟨S1024x1024, .f32⟩
  | 119 => ⟨S16x256x1024, .f32⟩
  | 120 => ⟨S16x256x512, .f32⟩
  | 121 => ⟨S16x256x512, .f32⟩
  | 122 => ⟨S_, .f32⟩
  | 123 => ⟨S_, .f32⟩
  | 124 => ⟨S16x256x512, .f32⟩
  | 125 => ⟨S16x256x512, .f32⟩
  | 126 => ⟨S16x256x1024, .f32⟩
  | 127 => ⟨S16x1024, .f32⟩
  | _ => ⟨S4096x1024, .f32⟩

abbrev hbmTy0_1 (i : Nat) : BufTy := match i % 128 with
  | 0 => ⟨S1024x16, .f32⟩
  | 1 => ⟨S16x256x16, .f32⟩
  | 2 => ⟨S16, .f32⟩
  | 3 => ⟨S1x1x16, .f32⟩
  | 4 => ⟨S16x256x16, .f32⟩
  | 5 => ⟨S16x256x16, .f32⟩
  | 6 => ⟨S16x16x256, .f32⟩
  | 7 => ⟨S16x8x256, .f32⟩
  | 8 => ⟨S16x8x256, .f32⟩
  | 9 => ⟨S16x8x256, .f32⟩
  | 10 => ⟨S_, .f32⟩
  | 11 => ⟨S16x8x256, .f32⟩
  | 12 => ⟨S16x8x256, .f32⟩
  | 13 => ⟨S16x8x256, .f32⟩
  | 14 => ⟨S16x8x256, .f32⟩
  | 15 => ⟨S16x8x256, .i1⟩
  | 16 => ⟨S16x8x256, .f32⟩
  | 17 => ⟨S16x8x256, .f32⟩
  | 18 => ⟨S16x8x256, .f32⟩
  | 19 => ⟨S16x8x256, .f32⟩
  | 20 => ⟨S16x8x256, .f32⟩
  | 21 => ⟨S16x8x256, .f32⟩
  | 22 => ⟨S16x8x256, .f32⟩
  | 23 => ⟨S16x8x256, .f32⟩
  | 24 => ⟨S16x8x256, .f32⟩
  | 25 => ⟨S16x16x256, .f32⟩
  | 26 => ⟨S16x256x1024, .bf16⟩
  | 27 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_7 : Ref sig .tc := ⟨.hbm, 90, rfl⟩
abbrev main_v66 : Ref sig .tc := ⟨.hbm, 91, rfl⟩
abbrev main_v67 : Ref sig .tc := ⟨.hbm, 92, rfl⟩
abbrev main_cst_8 : Ref sig .tc := ⟨.hbm, 93, rfl⟩
abbrev main_v68 : Ref sig .tc := ⟨.hbm, 94, rfl⟩
abbrev main_v69 : Ref sig .tc := ⟨.hbm, 95, rfl⟩
abbrev main_cst_9 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_10 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_11 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_call1_v0 : Ref sig .tc := ⟨.hbm, 137, rfl⟩
abbrev main_call1_call0_cst : Ref sig .tc := ⟨.hbm, 138, rfl⟩
abbrev main_call1_call0_v0 : Ref sig .tc := ⟨.hbm, 139, rfl⟩
abbrev main_call1_call0_v1 : Ref sig .tc := ⟨.hbm, 140, rfl⟩
abbrev main_call1_call0_v2 : Ref sig .tc := ⟨.hbm, 141, rfl⟩
abbrev main_call1_call0_v3 : Ref sig .tc := ⟨.hbm, 142, rfl⟩
abbrev main_call1_call0_v4 : Ref sig .tc := ⟨.hbm, 143, rfl⟩
abbrev main_call1_call0_v5 : Ref sig .tc := ⟨.hbm, 144, rfl⟩
abbrev main_call1_call0_v6 : Ref sig .tc := ⟨.hbm, 145, rfl⟩
abbrev main_call1_call0_v7 : Ref sig .tc := ⟨.hbm, 146, rfl⟩
abbrev main_call1_call0_v8 : Ref sig .tc := ⟨.hbm, 147, rfl⟩
abbrev main_call1_call0_v9 : Ref sig .tc := ⟨.hbm, 148, rfl⟩
abbrev main_call1_call0_v10 : Ref sig .tc := ⟨.hbm, 149, rfl⟩
abbrev main_call1_call0_v11 : Ref sig .tc := ⟨.hbm, 150, rfl⟩
abbrev main_call1_v1 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩

abbrev nD : Nat := 1
abbrev τ : Topo := Topo.v7x

variable {F : FTy → Type} [FloatOps F]
-- ==== Kernel4.lean ====
abbrev S24x1024 : Shape := ⟨2, ![24, 1024]⟩
abbrev S1024x9216 : Shape := ⟨2, ![1024, 9216]⟩
abbrev S9216 : Shape := ⟨1, ![9216]⟩
abbrev S1x9216 : Shape := ⟨2, ![1, 9216]⟩
abbrev S24x9216 : Shape := ⟨2, ![24, 9216]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S1024x9216, .f32⟩
  | .hbm, ⟨2, _⟩ => ⟨S9216, .f32⟩
  | .hbm, ⟨3, _⟩ => ⟨S1x9216, .f32⟩
  | .hbm, ⟨4, _⟩ => ⟨S24x9216, .f32⟩
  | .local _ .vmem, ⟨0, _⟩ => ⟨S24x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S24x1024, .f32⟩
  | .local _ .vmem, ⟨6, _⟩ => ⟨S24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S24x1024 : Shape := ⟨2, ![24, 1024]⟩
abbrev S1024x9216 : Shape := ⟨2, ![1024, 9216]⟩
abbrev S9216 : Shape := ⟨1, ![9216]⟩
abbrev S_ : Shape := ⟨0, ![]⟩
abbrev S24x9216 : Shape := ⟨2, ![24, 9216]⟩
abbrev S1x9216 : Shape := ⟨2, ![1, 9216]⟩

abbrev nBuf : Space → Nat
  | .hbm => 16
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S1024x9216, .f32⟩
  | .hbm, ⟨2, _⟩ => ⟨S9216, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S24x9216, .f32⟩
  | .hbm, ⟨13, _⟩ => ⟨S1x9216, .f32⟩
  | .hbm, ⟨14, _⟩ => ⟨S24x9216, .f32⟩
  | .hbm, ⟨15, _⟩ => ⟨S24x9216, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.FfnSpec.lean ====
/-
  One token's second half of the layer, as plain sums over the extended reals: the output projection of the two mixers'
  halves, the root-mean-square normalizations, the modulation, and the gated feed-forward network. A token's row is a
  function of the feature; a sum over all 2816 hidden features is the sum of its runs of 512 and the last run of 256.
-/
module

public import Idealize.ShloMosaic.PureOps.Ideal
public import Mathlib.Algebra.BigOperators.Fin

@[expose] public section

namespace Ffn

open Idealize.ShloMosaic

/-- A row of the residual stream. -/
abbrev Row := Fin 1024 → EReal

/-- The printed constant 1. -/
noncomputable abbrev c1 : EReal := Scalar.ofBits (F := Ideal) .f32 0x3F800000#32

/-- The printed constant 1/2. -/
noncomputable abbrev cHalf : EReal := Scalar.ofBits (F := Ideal) .f32 0x3F000000#32

/-- The row times the reciprocal root of its mean square, then a weight. -/
noncomputable def rms (x g : Row) (j : Fin 1024) : EReal :=
  x j * Ideal.rsqrt (Ideal.div (∑ k, x k * x k) (Scalar.ofBits (F := Ideal) .f32 0x44800000#32)
    + Scalar.ofBits (F := Ideal) .f32 0x358637BD#32) * g j

/-- The normalized row, scaled and shifted. -/
noncomputable def mod (x g shift scale : Row) (j : Fin 1024) : EReal := rms x g j * (c1 + scale j) + shift j

/-- A gated hidden feature: the first product through the logistic gate, times the second. -/
noncomputable def hid (a b : EReal) : EReal := a * Ideal.logistic a * b

/-- Column `k` of the first half of the up projection. -/
def lo (k : Fin 2816) : Fin 5632 := ⟨k.val, by omega⟩

/-- Column `k` of its second half. -/
def hi (k : Fin 2816) : Fin 5632 := ⟨2816 + k.val, by omega⟩

/-- Hidden feature `k` of a row. -/
noncomputable def hidden (h : Row) (up : Fin 1024 → Fin 5632 → EReal) (k : Fin 2816) : EReal :=
  hid (∑ e, h e * up e (lo k)) (∑ e, h e * up e (hi k))

/-- The feed-forward network's product. -/
noncomputable def down (h : Row) (up : Fin 1024 → Fin 5632 → EReal) (dn : Fin 2816 → Row) : Row :=
  fun j => ∑ k, hidden h up k * dn k j

/-- A row through the half-step feed-forward network. -/
noncomputable def tile (x gPre gPost shift scale gate : Row) (up : Fin 1024 → Fin 5632 → EReal) (dn : Fin 2816 → Row) : Row :=
  fun j => x j + cHalf * gate j * rms (down (mod x gPre shift scale) up dn) gPost j

/-- The output projection of a row given in two halves. -/
noncomputable def proj (a b : Fin 512 → EReal) (w : Fin 1024 → Row) : Row :=
  fun j => (∑ e, a e * w ⟨e.val, by omega⟩ j) + ∑ e, b e * w ⟨512 + e.val, by omega⟩ j

/-- The residual row after the mixers. -/
noncomputable def mixed (x : Row) (a b : Fin 512 → EReal) (g gate : Row) (w : Fin 1024 → Row) : Row :=
  fun j => x j + gate j * rms (proj a b w) g j

/-- The part of a sum over the hidden features that starts at `o` and has `n` terms. -/
noncomputable def part (f : Fin 2816 → EReal) (o n : ℕ) (h : o + n ≤ 2816) : EReal := ∑ k : Fin n, f ⟨o + k.val, by omega⟩

/-- Two adjacent parts make one. -/
theorem part_add (f : Fin 2816 → EReal) (n k : ℕ) (h : n + k ≤ 2816) :
    part f 0 n (by omega) + part f n k h = part f 0 (n + k) (by omega) := by
  unfold part
  rw [Fin.sum_univ_add]
  congr 1
  exact Finset.sum_congr rfl fun i _ => congrArg f (Fin.ext (by simp))

/-- The whole sum from its six parts. -/
theorem sum_parts (f : Fin 2816 → EReal) :
    part f 0 512 (by omega) + part f 512 512 (by omega) + part f 1024 512 (by omega) + part f 1536 512 (by omega)
        + part f 2048 512 (by omega) + part f 2560 256 (by omega) = ∑ k, f k := by
  rw [part_add f 512 512, part_add f 1024 512, part_add f 1536 512, part_add f 2048 512, part_add f 2560 256]
  unfold part
  simp

end Ffn

end
-- ==== Proof.FfnTile.lean ====
/-
  The kernel body's row tile of the second half of the layer, as vector operations: the projection with its residual, the
  normalization, the modulation, one run of hidden features and the closing step. Read at an index each is the row
  function of FfnSpec.lean.
-/
module

public import proofs.«01_k».proof.Proof.Gen.Kernel2Ideal.Skeleton
public import proofs.«01_k».proof.Proof.FfnSpec
public import Idealize.ShloMosaic.Lib.Pointwise

@[expose] public section

set_option maxRecDepth 16384

namespace Cert.Kernel2Ideal.Tile

open Idealize.ShloMosaic Idealize.ShloMosaic.TcCoe Cert.Kernel2Ideal Cert.Kernel2Ideal.Gen

section Tensors

variable {F : FTy → Type} [FloatOps F]

/-- A tile times the reciprocal roots of its rows' mean squares, then a weight row. -/
noncomputable def norm (x : FVec F S512x1024 .f32) (g : FVec F S1x1024 .f32) : FVec F S512x1024 .f32 :=
  mulf (mulf x (broadcastTo S512x1024 (rsqrt (addf
    (divf (shapeCast S512x1 (multiReduction .add [1] S512 (mulf x x) 0x00000000#32 reduces_S512x1024_S512 (.inl rfl) rfl)
      shapeCasts_S512_S512x1) (broadcast S512x1 (Scalar.ofBits .f32 0x44800000#32)))
    (broadcast S512x1 (Scalar.ofBits .f32 0x358637BD#32)))) broadcasts_S512x1_S512x1024))
    (broadcastTo S512x1024 g broadcasts_S1x1024_S512x1024)

/-- The normalized tile scaled and shifted. -/
noncomputable def modT (x : FVec F S512x1024 .f32) (g shift scale : FVec F S1x1024 .f32) : FVec F S512x1024 .bf16 :=
  truncf .bf16 (addf (mulf (norm x g)
    (broadcastTo S512x1024 (addf (broadcast S1x1024 (Scalar.ofBits .f32 0x3F800000#32)) scale) broadcasts_S1x1024_S512x1024))
    (broadcastTo S512x1024 shift broadcasts_S1x1024_S512x1024)) bitsLt_bf16_f32

/-- The product of a run of 512 gated hidden features with their rows of the down projection. -/
noncomputable def run512 (h : FVec F S512x1024 .bf16) (a b : FVec F S1024x512 .bf16) (d : FVec F S512x1024 .bf16) :
    FVec F S512x1024 .f32 :=
  have u := matmul dot_S512x1024_S1024x512_S512x512_1_0_0_1_n_n none h a (constant S512x512 .f32 0x00000000#32)
  matmul dot_S512x512_S512x1024_S512x1024_1_0_0_1_n_n none
    (truncf .bf16 (mulf (mulf u (logistic u))
      (matmul dot_S512x1024_S1024x512_S512x512_1_0_0_1_n_n none h b (constant S512x512 .f32 0x00000000#32))) bitsLt_bf16_f32)
    d (constant S512x1024 .f32 0x00000000#32)

/-- The same of a run of 256. -/
noncomputable def run256 (h : FVec F S512x1024 .bf16) (a b : FVec F S1024x256 .bf16) (d : FVec F S256x1024 .bf16) :
    FVec F S512x1024 .f32 :=
  have u := matmul dot_S512x1024_S1024x256_S512x256_1_0_0_1_n_n none h a (constant S512x256 .f32 0x00000000#32)
  matmul dot_S512x256_S256x1024_S512x1024_1_0_0_1_n_n none
    (truncf .bf16 (mulf (mulf u (logistic u))
      (matmul dot_S512x1024_S1024x256_S512x256_1_0_0_1_n_n none h b (constant S512x256 .f32 0x00000000#32))) bitsLt_bf16_f32)
    d (constant S512x1024 .f32 0x00000000#32)

/-- The closing half step. -/
noncomputable def close (x acc : FVec F S512x1024 .f32) (g gate : FVec F S1x1024 .f32) : FVec F S512x1024 .f32 :=
  addf x (mulf (broadcastTo S512x1024 (mulf (broadcast S1x1024 (Scalar.ofBits .f32 0x3F000000#32)) gate)
    broadcasts_S1x1024_S512x1024) (norm acc g))

/-- The output projection and the residual. -/
noncomputable def mix (a : FVec F S512x512 .bf16) (wa : FVec F S512x1024 .bf16) (b : FVec F S512x512 .bf16)
    (wb : FVec F S512x1024 .bf16) (x : FVec F S512x1024 .f32) (gate g : FVec F S1x1024 .f32) : FVec F S512x1024 .f32 :=
  addf x (mulf (broadcastTo S512x1024 gate broadcasts_S1x1024_S512x1024)
    (norm (addf (matmul dot_S512x512_S512x1024_S512x1024_1_0_0_1_n_n none a wa (constant S512x1024 .f32 0x00000000#32))
      (matmul dot_S512x512_S512x1024_S512x1024_1_0_0_1_n_n none b wb (constant S512x1024 .f32 0x00000000#32))) g))

theorem mix_eq (a wa b wb x) (gate : FVec F S1x1x1x1024 .f32) (g : FVec F S1x1x1024 .f32) :
    k0_pay2 a wa b wb x gate g = mix a wa b wb x (shapeCast S1x1024 gate shapeCasts_S1x1x1x1024_S1x1024)
      (shapeCast S1x1024 g shapeCasts_S1x1x1024_S1x1024) := rfl

theorem modT_eq (x g) (shift scale : FVec F S1x1x1x1024 .f32) :
    k0_pay6 x g shift scale = modT (F := F) x g (shapeCast S1x1024 shift shapeCasts_S1x1x1x1024_S1x1024)
      (shapeCast S1x1024 scale shapeCasts_S1x1x1x1024_S1x1024) := rfl

theorem run_eq0 (x g shift scale a b d) :
    k0_pay7 x g shift scale a b d = run512 (F := F) (k0_pay6 x g shift scale) a b d := rfl

theorem run_eq1 (h x a1 b1 d1 a2 b2 d2 a3 b3 d3) : k0_pay8 (F := F) h x a1 b1 d1 a2 b2 d2 a3 b3 d3
    = addf (addf (addf x (run512 h a1 b1 d1)) (run512 h a2 b2 d2)) (run512 h a3 b3 d3) := rfl

theorem close_eq (x g gate h acc a b d a' b' d') : k0_pay1 x (k0_pay9 (F := F) g gate h acc a b d a' b' d')
    = close x (addf (addf acc (run512 h a b d)) (run256 h a' b' d')) g gate := rfl

end Tensors

/-- The one row of a weight. -/
def row1 (g : FVec Ideal S1x1024 .f32) : Ffn.Row := fun j => g (ix2 0 j)

theorem norm_apply (x : FVec Ideal S512x1024 .f32) (g : FVec Ideal S1x1024 .f32) (r : Fin 512) (j : Fin 1024) :
    norm x g (ix2 r j) = Ffn.rms (fun k => x (ix2 r k)) (row1 g) j := by
  unfold norm Ffn.rms row1
  pointwise

theorem modT_apply (x : FVec Ideal S512x1024 .f32) (g shift scale : FVec Ideal S1x1024 .f32) (r : Fin 512) (j : Fin 1024) :
    modT x g shift scale (ix2 r j) = Ffn.mod (fun k => x (ix2 r k)) (row1 g) (row1 shift) (row1 scale) j := by
  unfold modT Ffn.mod
  pointwise
  rw [norm_apply]
  rfl

theorem run512_apply (h : FVec Ideal S512x1024 .bf16) (a b : FVec Ideal S1024x512 .bf16) (d : FVec Ideal S512x1024 .bf16)
    (r : Fin 512) (j : Fin 1024) :
    run512 h a b d (ix2 r j)
      = ∑ k, Ffn.hid (∑ e, h (ix2 r e) * a (ix2 e k)) (∑ e, h (ix2 r e) * b (ix2 e k)) * d (ix2 k j) := by
  unfold run512 Ffn.hid
  pointwise

theorem run256_apply (h : FVec Ideal S512x1024 .bf16) (a b : FVec Ideal S1024x256 .bf16) (d : FVec Ideal S256x1024 .bf16)
    (r : Fin 512) (j : Fin 1024) :
    run256 h a b d (ix2 r j)
      = ∑ k, Ffn.hid (∑ e, h (ix2 r e) * a (ix2 e k)) (∑ e, h (ix2 r e) * b (ix2 e k)) * d (ix2 k j) := by
  unfold run256 Ffn.hid
  pointwise

theorem close_apply (x acc : FVec Ideal S512x1024 .f32) (g gate : FVec Ideal S1x1024 .f32) (r : Fin 512) (j : Fin 1024) :
    close x acc g gate (ix2 r j)
      = x (ix2 r j) + Ffn.cHalf * gate (ix2 0 j) * Ffn.rms (fun k => acc (ix2 r k)) (row1 g) j := by
  unfold close
  pointwise
  rw [norm_apply]

theorem mix_apply (a : FVec Ideal S512x512 .bf16) (wa : FVec Ideal S512x1024 .bf16) (b : FVec Ideal S512x512 .bf16)
    (wb : FVec Ideal S512x1024 .bf16) (x : FVec Ideal S512x1024 .f32) (gate g : FVec Ideal S1x1024 .f32) (r : Fin 512)
    (j : Fin 1024) :
    mix a wa b wb x gate g (ix2 r j) = x (ix2 r j) + gate (ix2 0 j) * Ffn.rms (fun k =>
      (∑ e, a (ix2 r e) * wa (ix2 e k)) + ∑ e, b (ix2 r e) * wb (ix2 e k)) (row1 g) j := by
  unfold mix
  pointwise
  rw [norm_apply]
  pointwise

end Cert.Kernel2Ideal.Tile

end
-- ==== Proof.FfnKernel.lean ====
/-
  What the second half's kernel leaves in its result array: every element is the row function of FfnSpec.lean at the
  arguments' rows.
-/
module

public import proofs.«01_k».proof.Proof.Gen.Kernel2Ideal.Frame
public import proofs.«01_k».proof.Proof.FfnTile
public import Idealize.ShloMosaic.Lib.Pipeline.ValueKit

@[expose] public section

set_option maxRecDepth 16384

noncomputable section

namespace Cert.Kernel2Ideal.Tile

open Idealize.ShloMosaic Idealize.ShloMosaic.TcCoe Idealize.SL.Sem Cert.Kernel2Ideal Cert.Kernel2Ideal.Gen
open Idealize.ShloMosaic.Pipeline (Dat)

/-- A run of 512 hidden features, read at an index, is its part of the sum over all of them. -/
theorem run512_part {h : FVec Ideal S512x1024 .bf16} {a b : FVec Ideal S1024x512 .bf16} {d : FVec Ideal S512x1024 .bf16}
    {r : Fin 512} {j : Fin 1024} (o : ℕ) (ho : o + 512 ≤ 2816) (hr : Ffn.Row) (up : Fin 1024 → Fin 5632 → EReal)
    (dn : Fin 2816 → Ffn.Row) (hh : ∀ e, h (ix2 r e) = hr e) (ha : ∀ e k, a (ix2 e k) = up e (Ffn.lo ⟨o + k.val, by omega⟩))
    (hb : ∀ e k, b (ix2 e k) = up e (Ffn.hi ⟨o + k.val, by omega⟩)) (hd : ∀ k, d (ix2 k j) = dn ⟨o + k.val, by omega⟩ j) :
    run512 h a b d (ix2 r j) = Ffn.part (fun k => Ffn.hidden hr up k * dn k j) o 512 ho := by
  rw [run512_apply]
  simp only [Ffn.part, Ffn.hidden, hh, ha, hb, hd]

/-- The same for the run of 256. -/
theorem run256_part {h : FVec Ideal S512x1024 .bf16} {a b : FVec Ideal S1024x256 .bf16} {d : FVec Ideal S256x1024 .bf16}
    {r : Fin 512} {j : Fin 1024} (o : ℕ) (ho : o + 256 ≤ 2816) (hr : Ffn.Row) (up : Fin 1024 → Fin 5632 → EReal)
    (dn : Fin 2816 → Ffn.Row) (hh : ∀ e, h (ix2 r e) = hr e) (ha : ∀ e k, a (ix2 e k) = up e (Ffn.lo ⟨o + k.val, by omega⟩))
    (hb : ∀ e k, b (ix2 e k) = up e (Ffn.hi ⟨o + k.val, by omega⟩)) (hd : ∀ k, d (ix2 k j) = dn ⟨o + k.val, by omega⟩ j) :
    run256 h a b d (ix2 r j) = Ffn.part (fun k => Ffn.hidden hr up k * dn k j) o 256 ho := by
  rw [run256_apply]
  simp only [Ffn.part, Ffn.hidden, hh, ha, hb, hd]

/-- The rows of the modulation that a token's tile uses, and of the weights of the norms. -/
abbrev modRow (x3 : FVec Ideal S1x9x1x1024 .f32) (i : Fin 9) : Ffn.Row := fun k => x3 (ix4 0 i 0 k)

/-- A weight of the norms. -/
abbrev gRow (x4 : FVec Ideal S6x1x1024 .f32) (i : Fin 6) : Ffn.Row := fun k => x4 (ix3 i 0 k)

/-- The body's stored tile, from the blocks: the row function at the tile's rows. -/
theorem stored (x0 : FVec Ideal S512x1024 .f32) (x1 x2 : FVec Ideal S512x512 .bf16) (x3 : FVec Ideal S1x9x1x1024 .f32)
    (x4 : FVec Ideal S6x1x1024 .f32) (x5 : FVec Ideal S1024x1024 .bf16) (x6 : FVec Ideal S1024x5632 .bf16)
    (x7 : FVec Ideal S2816x1024 .bf16) (r : Fin 512) (j : Fin 1024) :
    out0_8 (F := Ideal) x0 x1 x2 x3 x4 x5 x6 x7 (ix2 r j)
      = Ffn.tile (Ffn.mixed (fun k => x0 (ix2 r k)) (fun k => x1 (ix2 r k)) (fun k => x2 (ix2 r k)) (gRow x4 3) (modRow x3 5)
          (fun e k => x5 (ix2 e k))) (gRow x4 4) (gRow x4 5) (modRow x3 6) (modRow x3 7) (modRow x3 8)
          (fun e k => x6 (ix2 e k)) (fun e k => x7 (ix2 e k)) j := by
  have hx : ∀ k, k0_pay10 (F := Ideal) x0 x1 x2 x3 x4 x5 x6 x7 (ix2 r k) = Ffn.mixed (fun k => x0 (ix2 r k))
      (fun k => x1 (ix2 r k)) (fun k => x2 (ix2 r k)) (gRow x4 3) (modRow x3 5) (fun e k => x5 (ix2 e k)) k := by
    intro k
    unfold k0_pay10
    rw [mix_eq, mix_apply]
    unfold Ffn.mixed Ffn.proj row1 gRow modRow
    pointwise
  have hh : ∀ k, k0_pay12 (F := Ideal) x0 x1 x2 x3 x4 x5 x6 x7 (ix2 r k) = Ffn.mod (Ffn.mixed (fun k => x0 (ix2 r k))
      (fun k => x1 (ix2 r k)) (fun k => x2 (ix2 r k)) (gRow x4 3) (modRow x3 5) (fun e k => x5 (ix2 e k)))
      (gRow x4 4) (modRow x3 6) (modRow x3 7) k := by
    intro k
    unfold k0_pay12 k0_pay11
    rw [modT_eq, modT_apply]
    simp only [hx]
    congr 1
    all_goals (funext i; unfold row1; (first | unfold gRow k0_pay3 | unfold modRow); pointwise)
  frame_out
  rw [close_eq, run_eq1, run_eq0, close_apply,
    show k0_pay6 (F := Ideal) (k0_pay10 x0 x1 x2 x3 x4 x5 x6 x7) (k0_pay11 x0 x1 x2 x3 x4 x5 x6 x7) (View.ld x3 r0_8) (View.ld x3 r0_9)
      = k0_pay12 x0 x1 x2 x3 x4 x5 x6 x7 from rfl, hx]
  unfold Ffn.tile
  refine congrArg₂ (· + ·) rfl (congrArg₂ (· * ·) (congrArg (Ffn.cHalf * ·) ?_) (congrFun (congrArg₂ Ffn.rms ?_ ?_) j))
  · unfold k0_pay5 modRow
    pointwise
  · funext k
    unfold Ffn.down
    rw [← Ffn.sum_parts]
    let up := fun (e : Fin 1024) (k : Fin 5632) => x6 (ix2 e k)
    let dn := fun (e : Fin 2816) (k : Fin 1024) => x7 (ix2 e k)
    refine congrArg₂ (· + ·) (congrArg₂ (· + ·) (congrArg₂ (· + ·) (congrArg₂ (· + ·) (congrArg₂ (· + ·)
      (run512_part 0 _ _ up dn hh ?_ ?_ ?_) (run512_part 512 _ _ up dn hh ?_ ?_ ?_)) (run512_part 1024 _ _ up dn hh ?_ ?_ ?_))
      (run512_part 1536 _ _ up dn hh ?_ ?_ ?_)) (run512_part 2048 _ _ up dn hh ?_ ?_ ?_))
      (run256_part 2560 _ _ up dn hh ?_ ?_ ?_)
    all_goals (intros; simp only [Ffn.lo, Ffn.hi, up, dn]; pointwise; blk_ext)
  · funext k
    unfold row1 k0_pay4 gRow
    pointwise

end Cert.Kernel2Ideal.Tile

end
-- ==== Proof.FfnOut.lean ====
/-
  The second half of the layer as one function of its eight arguments: at token `n` and feature `j`, the row function of
  FfnSpec.lean at the token's rows, with the modulation of the batch element `n / 2048`.
-/
module

public import proofs.«01_k».proof.Proof.FfnSpec
public import Idealize.ShloMosaic.Lib.Pointwise

@[expose] public section

namespace Ffn

open Idealize.ShloMosaic

/-- The batch element of a token. -/
def elem (n : Fin 32768) : Fin 24 := ⟨n.val / 2048, by omega⟩

/-- The result's row of a token. -/
noncomputable def rowOut (x1 : FVec Ideal ⟨2, ![32768, 1024]⟩ .f32) (cv hm : FVec Ideal ⟨2, ![32768, 512]⟩ .bf16)
    (md : FVec Ideal ⟨4, ![24, 9, 1, 1024]⟩ .f32) (g : FVec Ideal ⟨3, ![6, 1, 1024]⟩ .f32)
    (wo : FVec Ideal ⟨2, ![1024, 1024]⟩ .bf16) (up : FVec Ideal ⟨2, ![1024, 5632]⟩ .bf16)
    (dn : FVec Ideal ⟨2, ![2816, 1024]⟩ .bf16) (n : Fin 32768) : Row :=
  tile (mixed (fun k => x1 (ix2 n k)) (fun k => cv (ix2 n k)) (fun k => hm (ix2 n k)) (fun k => g (ix3 3 0 k))
      (fun k => md (ix4 (elem n) 5 0 k)) (fun e k => wo (ix2 e k)))
    (fun k => g (ix3 4 0 k)) (fun k => g (ix3 5 0 k)) (fun k => md (ix4 (elem n) 6 0 k)) (fun k => md (ix4 (elem n) 7 0 k))
    (fun k => md (ix4 (elem n) 8 0 k)) (fun e k => up (ix2 e k)) (fun e k => dn (ix2 e k))

/-- The result. -/
noncomputable def result (x1 : FVec Ideal ⟨2, ![32768, 1024]⟩ .f32) (cv hm : FVec Ideal ⟨2, ![32768, 512]⟩ .bf16)
    (md : FVec Ideal ⟨4, ![24, 9, 1, 1024]⟩ .f32) (g : FVec Ideal ⟨3, ![6, 1, 1024]⟩ .f32)
    (wo : FVec Ideal ⟨2, ![1024, 1024]⟩ .bf16) (up : FVec Ideal ⟨2, ![1024, 5632]⟩ .bf16)
    (dn : FVec Ideal ⟨2, ![2816, 1024]⟩ .bf16) : FVec Ideal ⟨2, ![32768, 1024]⟩ .f32 :=
  fun y => rowOut x1 cv hm md g wo up dn (y 0) (y 1)

end Ffn

end
-- ==== Proof.FfnFinal.lean ====
/-
  The kernel's result array after its run is the function of FfnOut.lean at its arguments: grid point `t` holds tokens
  `512 t` to `512 t + 511`, of batch element `t / 4`.
-/
module

public import proofs.«01_k».proof.Proof.FfnKernel
public import proofs.«01_k».proof.Proof.FfnOut

@[expose] public section

set_option maxRecDepth 16384

noncomputable section

namespace Cert.Kernel2Ideal.Tile

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ)

/-- Which block each window shows at a grid point. -/
theorem idx : ∀ t : Fin cfg0.N, win0_0.index t = ![t.val, 0] ∧ win0_1.index t = ![t.val, 0] ∧ win0_2.index t = ![t.val, 0]
    ∧ win0_3.index t = ![t.val / 4, 0, 0, 0] ∧ win0_4.index t = ![0, 0, 0] ∧ win0_5.index t = ![0, 0]
    ∧ win0_6.index t = ![0, 0] ∧ win0_7.index t = ![0, 0] ∧ win0_8.index t = ![t.val, 0] :=
  (by decide +kernel : ∀ t : Fin grid0.N, _)

/-- The result array after the run. -/
theorem final (c : Dev nD) : (dats m 0 c).arrAt 8 (cfgs 0).N
    = Ffn.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8]
  obtain ⟨r, j, rfl⟩ : ∃ (r : Fin 512) (j : Fin 1024), y = ix2 r j := ⟨y 0, y 1, by funext a; match a with | ⟨0, _⟩ => rfl | ⟨1, _⟩ => rfl⟩
  rw [stored]
  unfold Ffn.result Ffn.rowOut gRow modRow
  generalize hn : (win0_8.blk t).view.emb (ix2 r j) 0 = n
  generalize hj : (win0_8.blk t).view.emb (ix2 r j) 1 = j'
  have hn' : n.val = t.val * 512 + r.val := by rw [← hn]; blk_simp [idx t]
  have hj' : j' = j := by rw [← hj]; apply Fin.ext; blk_simp [idx t]
  have ht : t.val < 64 := t.isLt
  have h0 : ∀ k : Fin 1024, iblk m c 0 t (ix2 r k) = m ((c : Thread nD τ).loc main_arg0) (ix2 n k) := fun k => by
    blk_ext [iblk, V, idx t]
  have h1 : ∀ k : Fin 512, iblk m c 1 t (ix2 r k) = m ((c : Thread nD τ).loc main_arg1) (ix2 n k) := fun k => by
    blk_ext [iblk, V, idx t]
  have h2 : ∀ k : Fin 512, iblk m c 2 t (ix2 r k) = m ((c : Thread nD τ).loc main_arg2) (ix2 n k) := fun k => by
    blk_ext [iblk, V, idx t]
  have h3 : ∀ (i : Fin 9) (k : Fin 1024), iblk m c 3 t (ix4 0 i 0 k)
      = m ((c : Thread nD τ).loc main_arg3) (ix4 (Ffn.elem n) i 0 k) := fun i k => by
    blk_ext [iblk, V, idx t, Ffn.elem]
  have h4 : ∀ (i : Fin 6) (k : Fin 1024), iblk m c 4 t (ix3 i 0 k) = m ((c : Thread nD τ).loc main_arg4) (ix3 i 0 k) :=
    fun i k => by blk_ext [iblk, V, idx t]
  have h5 : ∀ e k : Fin 1024, iblk m c 5 t (ix2 e k) = m ((c : Thread nD τ).loc main_arg5) (ix2 e k) := fun e k => by
    blk_ext [iblk, V, idx t]
  have h6 : ∀ (e : Fin 1024) (k : Fin 5632), iblk m c 6 t (ix2 e k) = m ((c : Thread nD τ).loc main_arg6) (ix2 e k) :=
    fun e k => by blk_ext [iblk, V, idx t]
  have h7 : ∀ (e : Fin 2816) (k : Fin 1024), iblk m c 7 t (ix2 e k) = m ((c : Thread nD τ).loc main_arg7) (ix2 e k) :=
    fun e k => by blk_ext [iblk, V, idx t]
  simp only [h0, h1, h2, h3, h4, h5, h6, h7, hj']

end Cert.Kernel2Ideal.Tile

end
-- ==== Proof.FfnRef.lean ====
/-
  The reference's composed term, cut at its residual row, its normalized row, its gated hidden features and its down
  projection, and read at an index: it is the function of FfnOut.lean.
-/
module

public import proofs.«01_k».proof.Proof.Gen.Reference2Ideal.Run
public import proofs.«01_k».proof.Proof.FfnOut
public import Idealize.ShloMosaic.Lib.Pointwise
public import Idealize.ShloMosaic.Lib.Pipeline.ValueKit

@[expose] public section

set_option maxRecDepth 16384

noncomputable section

namespace Cert.Reference2Ideal.Layer

open Idealize.ShloMosaic Idealize.ShloMosaic.TcCoe Cert.Reference2Ideal Cert.Reference2Ideal.Gen

section Tensors

variable {F : FTy → Type} [FloatOps F]

/-- The modulation of the batch elements. -/
def mods (md : FVec F S24x9x1x1024 .f32) : FVec F S16x9x1024 .f32 :=
  shapeCast _ (extractStridedSlice S16x9x1x1024 ![0, 0, 0, 0] md slices_S24x9x1x1024_S16x9x1x1024_0_0_0_0)
    shapeCasts_S16x9x1x1024_S16x9x1024

/-- A part of the modulation, spread over a batch element's tokens after `op`. -/
def part5 (x : FVec F S16x9x1024 .f32) : FVec F S16x1x1024 .f32 :=
  broadcastInDim S16x1x1024 ![0, 2] bcast_S16x1024_S16x1x1024_0_2 (shapeCast S16x1024
    (extractStridedSlice S16x1x1024 ![0, 5, 0] x slices_S16x9x1024_S16x1x1024_0_5_0) shapeCasts_S16x1x1024_S16x1024)

/-- The shift. -/
def part6 (x : FVec F S16x9x1024 .f32) : FVec F S16x1x1024 .f32 :=
  broadcastInDim S16x1x1024 ![0, 2] bcast_S16x1024_S16x1x1024_0_2 (shapeCast S16x1024
    (extractStridedSlice S16x1x1024 ![0, 6, 0] x slices_S16x9x1024_S16x1x1024_0_6_0) shapeCasts_S16x1x1024_S16x1024)

/-- The scale. -/
def part7 (x : FVec F S16x9x1024 .f32) : FVec F S16x1x1024 .f32 :=
  broadcastInDim S16x1x1024 ![0, 2] bcast_S16x1024_S16x1x1024_0_2 (shapeCast S16x1024
    (extractStridedSlice S16x1x1024 ![0, 7, 0] x slices_S16x9x1024_S16x1x1024_0_7_0) shapeCasts_S16x1x1024_S16x1024)

/-- The gate. -/
def part8 (x : FVec F S16x9x1024 .f32) : FVec F S16x1x1024 .f32 :=
  broadcastInDim S16x1x1024 ![0, 2] bcast_S16x1024_S16x1x1024_0_2 (shapeCast S16x1024
    (extractStridedSlice S16x1x1024 ![0, 8, 0] x slices_S16x9x1024_S16x1x1024_0_8_0) shapeCasts_S16x1x1024_S16x1024)

/-- A part spread over the tokens. -/
def spread (x : FVec F S16x1x1024 .f32) : FVec F S16x2048x1024 .f32 :=
  broadcastInDim S16x2048x1024 ![0, 1, 2] bcast_S16x1x1024_S16x2048x1024_0_1_2 x

/-- The normalization with a weight. -/
def norm (x : FVec F S16x2048x1024 .f32) (g : FVec F S1x1024 .f32) : FVec F S16x2048x1024 .f32 :=
  mulf (mulf x (broadcastInDim S16x2048x1024 ![0, 1, 2] bcast_S16x2048x1_S16x2048x1024_0_1_2 (Host.rsqrt (addf
    (Host.divf (broadcastInDim S16x2048x1 ![0, 1] bcast_S16x2048_S16x2048x1_0_1
        (Host.reduceAdd (mulf x x) (constant S_ .f32 0x00000000#32) reducesTo_S16x2048x1024_S16x2048_d2 h_S_))
      (broadcastInDim S16x2048x1 ![] bcast_S_S16x2048x1 (constant S_ .f32 0x44800000#32)))
    (broadcastInDim S16x2048x1 ![] bcast_S_S16x2048x1 (constant S_ .f32 0x358637BD#32))))))
    (broadcastInDim S16x2048x1024 ![0, 1, 2] bcast_S1x1x1024_S16x2048x1024_0_1_2
      (broadcastInDim S1x1x1024 ![2] bcast_S1024_S1x1x1024_2 (shapeCast S1024 g shapeCasts_S1x1024_S1024)))

/-- The output projection of the two mixers' halves. -/
def projT (cv hm : FVec F S32768x512 .bf16) (wo : FVec F S1024x1024 .bf16) : FVec F S16x2048x1024 .f32 :=
  Host.dotGeneral dot_S16x2048x1024_S1024x1024_S16x2048x1024_2_0_01_1_n_n none
    (shapeCast S16x2048x1024 (extf .f32 (concatenate S32768x1024 1 [⟨S32768x512, cv⟩, ⟨S32768x512, hm⟩]
      concatenates_S32768x512_S32768x512_S32768x1024_d1) bitsLt_bf16_f32) shapeCasts_S32768x1024_S16x2048x1024)
    (extf .f32 wo bitsLt_bf16_f32)

/-- The residual stream after the mixers. -/
def mixT (x1 : FVec F S32768x1024 .f32) (cv hm : FVec F S32768x512 .bf16) (ms : FVec F S16x9x1024 .f32)
    (g : FVec F S1x1024 .f32) (wo : FVec F S1024x1024 .bf16) : FVec F S16x2048x1024 .f32 :=
  addf (shapeCast S16x2048x1024 x1 shapeCasts_S32768x1024_S16x2048x1024)
    (mulf (spread (part5 ms)) (norm (projT cv hm wo) g))

/-- The normalized stream, scaled and shifted. -/
def modT (x : FVec F S16x2048x1024 .f32) (ms : FVec F S16x9x1024 .f32) (g : FVec F S1x1024 .f32) :
    FVec F S16x2048x1024 .f32 :=
  addf (mulf (norm x g) (spread (addf (broadcastInDim S16x1x1024 ![] bcast_S_S16x1x1024 (constant S_ .f32 0x3F800000#32))
    (part7 ms)))) (spread (part6 ms))

/-- The up projection. -/
def upT (h : FVec F S16x2048x1024 .f32) (w : FVec F S1024x5632 .bf16) : FVec F S16x2048x5632 .f32 :=
  Host.dotGeneral dot_S16x2048x1024_S1024x5632_S16x2048x5632_2_0_01_1_n_n none h (extf .f32 w bitsLt_bf16_f32)

/-- The gated hidden features. -/
def hidT (u : FVec F S16x2048x5632 .f32) : FVec F S16x2048x2816 .f32 :=
  have a := extractStridedSlice S16x2048x2816 ![0, 0, 0] u slices_S16x2048x5632_S16x2048x2816_0_0_0
  mulf (mulf a (Host.divf (broadcastInDim S16x2048x2816 ![] bcast_S_S16x2048x2816 (constant S_ .f32 0x3F800000#32))
      (addf (broadcastInDim S16x2048x2816 ![] bcast_S_S16x2048x2816 (constant S_ .f32 0x3F800000#32))
        (Host.exp (Host.negf a)))))
    (extractStridedSlice S16x2048x2816 ![0, 0, 2816] u slices_S16x2048x5632_S16x2048x2816_0_0_2816)

/-- The down projection. -/
def downT (a : FVec F S16x2048x2816 .f32) (w : FVec F S2816x1024 .bf16) : FVec F S16x2048x1024 .f32 :=
  Host.dotGeneral dot_S16x2048x2816_S2816x1024_S16x2048x1024_2_0_01_1_n_n none a (extf .f32 w bitsLt_bf16_f32)

/-- The closing half step. -/
def closeT (x y : FVec F S16x2048x1024 .f32) (ms : FVec F S16x9x1024 .f32) (g : FVec F S1x1024 .f32) :
    FVec F S32768x1024 .f32 :=
  shapeCast S32768x1024 (addf x (mulf (spread (mulf
    (broadcastInDim S16x1x1024 ![] bcast_S_S16x1x1024 (constant S_ .f32 0x3F000000#32)) (part8 ms))) (norm y g)))
    shapeCasts_S16x2048x1024_S32768x1024

end Tensors

section Runs
open Idealize.SL.Sem

variable {F : FTy → Type} [FloatOps F]

/-- The weights of the norms, as a table. -/
def gTab (g : FVec F S6x1x1024 .f32) : FVec F S6x1024 .f32 := shapeCast S6x1024 g shapeCasts_S6x1x1024_S6x1024

/-- A row of the table. -/
def g3 (g : FVec F S6x1x1024 .f32) : FVec F S1x1024 .f32 :=
  extractStridedSlice S1x1024 ![3, 0] (gTab g) slices_S6x1024_S1x1024_3_0

/-- A row of the table. -/
def g4 (g : FVec F S6x1x1024 .f32) : FVec F S1x1024 .f32 :=
  extractStridedSlice S1x1024 ![4, 0] (gTab g) slices_S6x1024_S1x1024_4_0

/-- A row of the table. -/
def g5 (g : FVec F S6x1x1024 .f32) : FVec F S1x1024 .f32 :=
  extractStridedSlice S1x1024 ![5, 0] (gTab g) slices_S6x1024_S1x1024_5_0

/-- The whole term from its arguments. -/
def layer (x1 : FVec F S32768x1024 .f32) (cv hm : FVec F S32768x512 .bf16) (md : FVec F S24x9x1x1024 .f32)
    (g : FVec F S6x1x1024 .f32) (wo : FVec F S1024x1024 .bf16) (wu : FVec F S1024x5632 .bf16)
    (wd : FVec F S2816x1024 .bf16) : FVec F S32768x1024 .f32 :=
  closeT (mixT x1 cv hm (mods md) (g3 g) wo)
    (downT (hidT (upT (modT (mixT x1 cv hm (mods md) (g3 g) wo) (mods md) (g4 g)) wu)) wd) (mods md) (g5 g)

set_option maxHeartbeats 4000000 in
/-- The run's term is this one. -/
theorem res_eq (m : (ℓ : Loc nD τ sig) → Buf (Elt F) ℓ) (c : Dev nD) :
    Cert.Reference2Ideal.Value.res_main_v88 m c = layer (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) := rfl

end Runs

/-- The batch element and the position of a token. -/
def bOf (n : Fin 32768) : Fin 16 := ⟨n.val / 2048, by omega⟩

/-- The position of a token. -/
def sOf (n : Fin 32768) : Fin 2048 := ⟨n.val % 2048, by omega⟩

theorem mods_apply (md : FVec Ideal S24x9x1x1024 .f32) (b : Fin 16) (i : Fin 9) (k : Fin 1024) :
    mods md (ix3 b i k) = md (ix4 ⟨b.val, by omega⟩ i 0 k) := by
  unfold mods
  pointwise
  blk_ext

theorem norm_apply (x : FVec Ideal S16x2048x1024 .f32) (g : FVec Ideal S1x1024 .f32) (b : Fin 16) (s : Fin 2048)
    (j : Fin 1024) :
    norm x g (ix3 b s j) = Ffn.rms (fun k => x (ix3 b s k)) (fun k => g (ix2 0 k)) j := by
  unfold norm Ffn.rms
  pointwise

theorem projT_apply (cv hm : FVec Ideal S32768x512 .bf16) (wo : FVec Ideal S1024x1024 .bf16) (n : Fin 32768)
    (j : Fin 1024) :
    projT cv hm wo (ix3 (bOf n) (sOf n) j)
      = Ffn.proj (fun k => cv (ix2 n k)) (fun k => hm (ix2 n k)) (fun e k => wo (ix2 e k)) j := by
  unfold projT Ffn.proj
  pointwise
  blk_point [bOf, sOf]

theorem mixT_apply (x1 : FVec Ideal S32768x1024 .f32) (cv hm : FVec Ideal S32768x512 .bf16)
    (ms : FVec Ideal S16x9x1024 .f32) (g : FVec Ideal S1x1024 .f32) (wo : FVec Ideal S1024x1024 .bf16) (n : Fin 32768)
    (j : Fin 1024) :
    mixT x1 cv hm ms g wo (ix3 (bOf n) (sOf n) j) = Ffn.mixed (fun k => x1 (ix2 n k)) (fun k => cv (ix2 n k))
      (fun k => hm (ix2 n k)) (fun k => g (ix2 0 k)) (fun k => ms (ix3 (bOf n) 5 k)) (fun e k => wo (ix2 e k)) j := by
  unfold mixT
  pointwise [spread, part5]
  rw [norm_apply]
  simp only [projT_apply]
  unfold Ffn.mixed
  beta_reduce
  congr 1
  blk_ext [bOf, sOf]

theorem modT_apply (x : FVec Ideal S16x2048x1024 .f32) (ms : FVec Ideal S16x9x1024 .f32) (g : FVec Ideal S1x1024 .f32)
    (b : Fin 16) (s : Fin 2048) (j : Fin 1024) :
    modT x ms g (ix3 b s j) = Ffn.mod (fun k => x (ix3 b s k)) (fun k => g (ix2 0 k)) (fun k => ms (ix3 b 6 k))
      (fun k => ms (ix3 b 7 k)) j := by
  unfold modT Ffn.mod
  pointwise [spread, part6, part7]
  rw [norm_apply]

theorem hid_apply (h : FVec Ideal S16x2048x1024 .f32) (w : FVec Ideal S1024x5632 .bf16) (b : Fin 16) (s : Fin 2048)
    (k : Fin 2816) :
    hidT (upT h w) (ix3 b s k) = Ffn.hidden (fun e => h (ix3 b s e)) (fun e k => w (ix2 e k)) k := by
  unfold hidT upT Ffn.hidden Ffn.hid Ffn.lo Ffn.hi Ideal.logistic
  pointwise

theorem down_apply (a : FVec Ideal S16x2048x2816 .f32) (w : FVec Ideal S2816x1024 .bf16) (b : Fin 16) (s : Fin 2048)
    (k : Fin 1024) :
    downT a w (ix3 b s k) = ∑ e, a (ix3 b s e) * w (ix2 e k) := by
  unfold downT
  pointwise

theorem closeT_apply (x y : FVec Ideal S16x2048x1024 .f32) (ms : FVec Ideal S16x9x1024 .f32)
    (g : FVec Ideal S1x1024 .f32) (n : Fin 32768) (j : Fin 1024) :
    closeT x y ms g (ix2 n j) = x (ix3 (bOf n) (sOf n) j)
      + Ffn.cHalf * ms (ix3 (bOf n) 8 j) * Ffn.rms (fun k => y (ix3 (bOf n) (sOf n) k)) (fun k => g (ix2 0 k)) j := by
  unfold closeT
  pointwise [spread, part8]
  rw [norm_apply]
  rfl

theorem g_apply (g : FVec Ideal S6x1x1024 .f32) (k : Fin 1024) : g3 g (ix2 0 k) = g (ix3 3 0 k) ∧ g4 g (ix2 0 k) = g (ix3 4 0 k)
    ∧ g5 g (ix2 0 k) = g (ix3 5 0 k) := by
  unfold g3 g4 g5 gTab
  refine ⟨?_, ?_, ?_⟩ <;> pointwise <;> blk_ext

/-- The whole term is the layer's function. -/
theorem layer_eq (x1 : FVec Ideal S32768x1024 .f32) (cv hm : FVec Ideal S32768x512 .bf16)
    (md : FVec Ideal S24x9x1x1024 .f32) (g : FVec Ideal S6x1x1024 .f32) (wo : FVec Ideal S1024x1024 .bf16)
    (wu : FVec Ideal S1024x5632 .bf16) (wd : FVec Ideal S2816x1024 .bf16) :
    layer x1 cv hm md g wo wu wd = Ffn.result x1 cv hm md g wo wu wd := by
  funext y
  obtain ⟨n, j, rfl⟩ : ∃ (n : Fin 32768) (j : Fin 1024), y = ix2 n j :=
    ⟨y 0, y 1, by funext a; match a with | ⟨0, _⟩ => rfl | ⟨1, _⟩ => rfl⟩
  have hg := g_apply g
  unfold layer Ffn.result
  rw [closeT_apply]
  simp only [down_apply, hid_apply, modT_apply, mixT_apply, mods_apply, hg]
  rfl

end Cert.Reference2Ideal.Layer

end
-- ==== Proof.FrontSpec.lean ====
/-
  One token's first half of the layer, after its half-step network: the columns of the combined projection, the short
  convolution along a row of the latent grid, the keys' scale and the gates, as plain sums over the extended reals.
-/
module

public import proofs.«01_k».proof.Proof.FfnSpec

@[expose] public section

namespace Front

open Idealize.ShloMosaic

/-- A column of a product. -/
noncomputable def lin {n : ℕ} (h : Ffn.Row) (w : Fin 1024 → Fin n → EReal) (c : Fin n) : EReal := ∑ e, h e * w e c

/-- The convolution's input: the product of the second and third column group. -/
noncomputable def convIn (h : Ffn.Row) (w : Fin 1024 → Fin 1536 → EReal) (c : Fin 512) : EReal :=
  lin h w ⟨512 + c.val, by omega⟩ * lin h w ⟨1024 + c.val, by omega⟩

/-- The token before, and itself for the first. -/
def before {n : ℕ} (r : Fin n) : Fin n := ⟨r.val - 1, by omega⟩

/-- The token after, and itself for the last. -/
def after {n : ℕ} (r : Fin n) : Fin n := ⟨min (r.val + 1) (n - 1), by omega⟩

/-- The gated width-3 convolution at a token, with zeros beyond the ends of its grid row of 64. -/
noncomputable def conv {n : ℕ} (H : Fin n → Ffn.Row) (w : Fin 1024 → Fin 1536 → EReal) (cw : Fin 3 → Fin 512 → EReal)
    (r : Fin n) (c : Fin 512) : EReal :=
  lin (H r) w ⟨c.val, by omega⟩ * (cw 0 c * (if r.val % 64 = 0 then 0 else convIn (H (before r)) w c)
    + cw 1 c * convIn (H r) w c + cw 2 c * (if r.val % 64 = 63 then 0 else convIn (H (after r)) w c))

/-- Two streams that agree along the token's grid row have the same convolution there. -/
theorem conv_congr {n k : ℕ} {H : Fin n → Ffn.Row} {K : Fin k → Ffn.Row} (w : Fin 1024 → Fin 1536 → EReal)
    (cw : Fin 3 → Fin 512 → EReal) {r : Fin n} {s : Fin k} (c : Fin 512) (hrs : r.val % 64 = s.val % 64) (h : H r = K s)
    (hb : r.val % 64 ≠ 0 → H (before r) = K (before s)) (ha : r.val % 64 ≠ 63 → H (after r) = K (after s)) :
    conv H w cw r c = conv K w cw s c := by
  unfold conv
  rw [← hrs, h]
  congr 2
  · by_cases h0 : r.val % 64 = 0
    · simp only [if_pos h0]
    · simp only [if_neg h0, hb h0]
  · by_cases h0 : r.val % 64 = 63
    · simp only [if_pos h0]
    · simp only [if_neg h0, ha h0]

/-- The keys' scale, the reciprocal root of the head's width. -/
noncomputable def kScale : EReal := (((Real.sqrt 128)⁻¹ : ℝ) : EReal)

/-- The printed width of a head. -/
theorem width_eq : Ideal.ofBits .f32 0x43000000#32 = ((128 : ℝ) : EReal) := by
  simp [Ideal.ofBits, Ideal.ieee, -EReal.coe_mul]
  norm_num

/-- Dividing by the root of the head's width multiplies by the scale. -/
theorem div_root (x : EReal) : Ideal.div x (Ideal.sqrt (Ideal.ofBits .f32 0x43000000#32)) = x * kScale := by
  have h : Real.sqrt 128 ≠ 0 := by positivity
  rw [width_eq, Ideal.sqrt_coe, if_neg (by norm_num), Ideal.div_coe h, one_div]
  rfl

/-- Queries, keys, values and output gates: the keys' columns are scaled. -/
noncomputable def qkvo (h : Ffn.Row) (w : Fin 1024 → Fin 2048 → EReal) (c : Fin 2048) : EReal :=
  if c.val / 512 = 1 then lin h w c * kScale else lin h w c

/-- The logarithm of the logistic function, as it is computed. -/
noncomputable def logSig (x : EReal) : EReal := min x 0 - Ideal.log1p (Ideal.exp (0 - max x (-x)))

/-- A gate's preactivation, the forget gates through the logarithm of the logistic function. -/
noncomputable def gate (h : Ffn.Row) (w : Fin 16 → Ffn.Row) (b : Fin 16 → EReal) (i : Fin 16) : EReal :=
  if i.val < 8 then (∑ e, w i e * h e) + b i else logSig ((∑ e, w i e * h e) + b i)

end Front

end
-- ==== Proof.FrontTile.lean ====
/-
  What the body of the first half's kernel stores in its four tiles, from its blocks: the residual row, the convolution, the
  queries, keys, values and output gates, and the gates' preactivations of FrontSpec.lean. The half step itself is the tile
  of FfnTile.lean.
-/
module

public import proofs.«01_k».proof.Proof.Gen.Kernel1Ideal.Frame
public import proofs.«01_k».proof.Proof.FfnKernel
public import proofs.«01_k».proof.Proof.FrontSpec

@[expose] public section

set_option maxRecDepth 16384

noncomputable section

namespace Cert.Kernel1Ideal.Tile

open Idealize.ShloMosaic Idealize.ShloMosaic.TcCoe Idealize.SL.Sem Cert.Kernel1Ideal Cert.Kernel1Ideal.Gen
open Cert.Kernel2Ideal.Tile (modT run512 run256 close modT_apply close_apply run512_part run256_part row1 modRow gRow)

section Tensors

variable {F : FTy → Type} [FloatOps F] [Named F]

theorem mod_eq (x g) (shift scale : FVec F S1x1x1x1024 .f32) : k0_pay5 x g shift scale
    = modT (F := F) x (shapeCast S1x1024 g shapeCasts_S1x1x1024_S1x1024)
      (shapeCast S1x1024 shift shapeCasts_S1x1x1x1024_S1x1024) (shapeCast S1x1024 scale shapeCasts_S1x1x1x1024_S1x1024) := rfl

theorem run_eq0 (x g shift scale a b d a1 b1 d1 a2 b2 d2) :
    k0_pay7 (k0_pay5 (F := F) x g shift scale) (k0_pay6 x g shift scale a) b d a1 b1 d1 a2 b2 d2
      = addf (addf (run512 (k0_pay5 x g shift scale) a b d) (run512 (k0_pay5 x g shift scale) a1 b1 d1))
        (run512 (k0_pay5 x g shift scale) a2 b2 d2) := rfl

theorem run_eq1 (h acc a b d a1 b1 d1 a2 b2 d2) : k0_pay9 (F := F) h acc (k0_pay8 h a) b d a1 b1 d1 a2 b2 d2
    = addf (addf (addf acc (run512 h a b d)) (run512 h a1 b1 d1)) (run256 h a2 b2 d2) := rfl

theorem close_eq (x g gate h acc u b d a1 b1 d1 a2 b2 d2) :
    k0_pay12 x g (k0_pay9 (F := F) h acc u b d a1 b1 d1 a2 b2 d2) (k0_pay10 gate)
      (k0_pay11 h acc u b d a1 b1 d1 a2 b2 d2) = close x (k0_pay9 h acc u b d a1 b1 d1 a2 b2 d2) g gate := rfl

theorem mod_eq1 (x g acc hg s) (g' : FVec F S1x1x1024 .f32) (scale shift : FVec F S1x1x1x1024 .f32) :
    k0_pay13 x g acc hg s g' scale shift
      = modT (F := F) (k0_pay12 x g acc hg s) (shapeCast S1x1024 g' shapeCasts_S1x1x1024_S1x1024)
      (shapeCast S1x1024 shift shapeCasts_S1x1x1x1024_S1x1024) (shapeCast S1x1024 scale shapeCasts_S1x1x1x1024_S1x1024) := rfl

end Tensors

/-- The named constant is the keys' scale. -/
theorem key_scale : (Named.named (F := Ideal) Cert.Kernel1Ideal.κ "key_scale" (φ := .f32) 0x3DB504F3#32) = Front.kScale :=
  IdealRules.named_const.ideal_named_scalar _ _ _ _ rfl

/-- The number of a token within its grid row. -/
theorem pos_apply : ∀ r : Fin 512, k0_pay16 (ix2 r 0) = BitVec.ofNat 32 (r.val % 64) := by decide +kernel

section Blocks

variable (x0 : FVec Ideal S512x1024 .f32) (x1 : FVec Ideal S1x9x1x1024 .f32) (x2 : FVec Ideal S6x1x1024 .f32)
  (x3 : FVec Ideal S1024x5632 .bf16) (x4 : FVec Ideal S2816x1024 .bf16) (x5 : FVec Ideal S1024x1536 .bf16)
  (x6 : FVec Ideal S1024x2048 .bf16) (x7 : FVec Ideal S16x1024 .bf16) (x8 : FVec Ideal S16x1 .f32)
  (x9 : FVec Ideal S3x1x512 .f32)

/-- The residual row after the half step, from the blocks. -/
def resid (r : Fin 512) : Ffn.Row :=
  Ffn.tile (fun k => x0 (ix2 r k)) (gRow x2 0) (gRow x2 1) (modRow x1 0) (modRow x1 1) (modRow x1 2)
    (fun e k => x3 (ix2 e k)) (fun e k => x4 (ix2 e k))

/-- The normalized and modulated residual row. -/
def inner (r : Fin 512) : Ffn.Row := Ffn.mod (resid x0 x1 x2 x3 x4 r) (gRow x2 2) (modRow x1 3) (modRow x1 4)

theorem stored_x (r : Fin 512) (j : Fin 1024) :
    out0_10 (F := Ideal) x0 x1 x2 x3 x4 x5 x6 x7 x8 x9 (ix2 r j) = resid x0 x1 x2 x3 x4 r j := by
  have hh : ∀ k, k0_pay24 (F := Ideal) x0 x1 x2 x3 x4 x5 x6 x7 x8 x9 (ix2 r k)
      = Ffn.mod (fun k => x0 (ix2 r k)) (gRow x2 0) (modRow x1 0) (modRow x1 1) k := by
    intro k
    unfold k0_pay24
    rw [mod_eq, modT_apply]
    congr 1
    all_goals (funext i; (try unfold row1); (first | unfold gRow | unfold modRow | skip); pointwise)
  frame_out
  unfold k0_pay29 k0_pay28 k0_pay27
  rw [close_eq, close_apply]
  unfold resid Ffn.tile
  refine congrArg₂ (· + ·) ?_ (congrArg₂ (· * ·) (congrArg (Ffn.cHalf * ·) ?_) (congrFun (congrArg₂ Ffn.rms ?_ ?_) j))
  · pointwise
  · unfold k0_pay4 modRow
    pointwise
  · funext k
    unfold k0_pay26 k0_pay25
    rw [run_eq1]
    unfold k0_pay24 at hh ⊢
    rw [run_eq0]
    unfold Ffn.down
    rw [← Ffn.sum_parts]
    let up := fun (e : Fin 1024) (k : Fin 5632) => x3 (ix2 e k)
    let dn := fun (e : Fin 2816) (k : Fin 1024) => x4 (ix2 e k)
    refine congrArg₂ (· + ·) (congrArg₂ (· + ·) (congrArg₂ (· + ·) (congrArg₂ (· + ·) (congrArg₂ (· + ·)
      (run512_part 0 _ _ up dn hh ?_ ?_ ?_) (run512_part 512 _ _ up dn hh ?_ ?_ ?_)) (run512_part 1024 _ _ up dn hh ?_ ?_ ?_))
      (run512_part 1536 _ _ up dn hh ?_ ?_ ?_)) (run512_part 2048 _ _ up dn hh ?_ ?_ ?_))
      (run256_part 2560 _ _ up dn hh ?_ ?_ ?_)
    all_goals (intros; simp only [Ffn.lo, Ffn.hi, up, dn]; pointwise; blk_ext)
  · funext k
    unfold row1 k0_pay23 k0_pay3 gRow
    pointwise

/-- The modulated tile that the projection reads. -/
theorem inner_apply (r : Fin 512) (j : Fin 1024) :
    k0_pay30 (F := Ideal) x0 x1 x2 x3 x4 x5 x6 x7 x8 x9 (ix2 r j) = inner x0 x1 x2 x3 x4 r j := by
  have hx : ∀ k, k0_pay12 (F := Ideal) (View.ld x0 r0_0) (k0_pay23 x0 x1 x2 x3 x4 x5 x6 x7 x8 x9) (k0_pay27 x0 x1 x2 x3 x4 x5 x6 x7 x8 x9)
      (k0_pay28 x0 x1 x2 x3 x4 x5 x6 x7 x8 x9) (k0_pay29 x0 x1 x2 x3 x4 x5 x6 x7 x8 x9) (ix2 r k) = resid x0 x1 x2 x3 x4 r k := by
    intro k
    rw [← stored_x x0 x1 x2 x3 x4 x5 x6 x7 x8 x9]
    frame_out
  unfold k0_pay30
  rw [mod_eq1, modT_apply]
  simp only [hx]
  unfold inner
  congr 1
  all_goals (funext i; (try unfold row1); (first | unfold gRow | unfold modRow | skip); pointwise)

theorem stored_conv (r : Fin 512) (c : Fin 512) :
    out0_11 (F := Ideal) x0 x1 x2 x3 x4 x5 x6 x7 x8 x9 (ix2 r c)
      = Front.conv (inner x0 x1 x2 x3 x4) (fun e k => x5 (ix2 e k)) (fun i k => x9 (ix3 i 0 k)) r c := by
  frame_out
  generalize hH : k0_pay30 (F := Ideal) x0 x1 x2 x3 x4 x5 x6 x7 x8 x9 = H
  have hi : ∀ r k, H (ix2 r k) = inner x0 x1 x2 x3 x4 r k := fun r k => by
    rw [← hH, inner_apply]
  have hu : ∀ r c, k0_pay15 H (View.ld x5 r0_28) (View.ld x5 r0_29) (ix2 r c)
      = Front.convIn (inner x0 x1 x2 x3 x4 r) (fun e k => x5 (ix2 e k)) c := by
    intro r c
    unfold k0_pay15 Front.convIn Front.lin
    pointwise
    simp only [hi]
  unfold k0_pay19 k0_pay17 k0_pay18 k0_pay14 Front.conv
  pointwise
  rw [pos_apply]
  have e0 : IntOp.cmpi .eq (BitVec.ofNat 32 (r.val % 64)) 0#32 = if r.val % 64 = 0 then 1#1 else 0#1 := by
    revert r; decide +kernel
  have e1 : IntOp.cmpi .eq (BitVec.ofNat 32 (r.val % 64)) 63#32 = if r.val % 64 = 63 then 1#1 else 0#1 := by
    revert r; decide +kernel
  rw [e0, e1]
  simp only [hu, hi]
  refine congrArg₂ (· * ·) rfl (congrArg₂ (· + ·) (congrArg₂ (· + ·) ?_ rfl) ?_)
  · by_cases h : r.val % 64 = 0
    · simp [h, Scalar.select]
    · have : (⟨(r.val + 512 - 1) % 512, Nat.mod_lt _ (by omega)⟩ : Fin 512) = Front.before r :=
        Fin.ext (by simp only [Front.before]; omega)
      rw [this]; simp [h, Scalar.select]
  · by_cases h : r.val % 64 = 63
    · simp [h, Scalar.select]
    · have : (⟨(r.val + 512 - 511) % 512, Nat.mod_lt _ (by omega)⟩ : Fin 512) = Front.after r :=
        Fin.ext (by simp only [Front.after]; omega)
      rw [this]; simp [h, Scalar.select]

theorem stored_qkvo (r : Fin 512) (c : Fin 2048) :
    out0_12 (F := Ideal) x0 x1 x2 x3 x4 x5 x6 x7 x8 x9 (ix2 r c)
      = Front.qkvo (inner x0 x1 x2 x3 x4 r) (fun e k => x6 (ix2 e k)) c := by
  frame_out
  canon_tiles x h
  all_goals
    obtain ⟨a, s, rfl⟩ : ∃ (a : Fin 512) (s : Fin 512), x = ix2 a s :=
      ⟨x 0, x 1, by funext a; match a with | ⟨0, _⟩ => rfl | ⟨1, _⟩ => rfl⟩
    have ha : a = r := Fin.ext h0.symm
    subst ha
    obtain ⟨c, hc⟩ := c
    (first | replace h1 : c = _ + s.val := h1 | replace h1 : c = s.val := h1)
    subst h1
    first | unfold k0_pay1 | unfold k0_pay20 | unfold k0_pay21 | unfold k0_pay22
    pointwise
    simp only [inner_apply, key_scale]
    unfold Front.qkvo Front.lin
    (first | rw [if_neg (by simp only []; omega)] | rw [if_pos (by simp only []; omega)])

theorem stored_gate (i : Fin 16) (r : Fin 512) :
    out0_13 (F := Ideal) x0 x1 x2 x3 x4 x5 x6 x7 x8 x9 (ix3 0 i r)
      = Front.gate (inner x0 x1 x2 x3 x4 r) (fun i e => x7 (ix2 i e)) (fun i => x8 (ix2 i 0)) i := by
  frame_out
  unfold k0_pay2
  pointwise
  simp only [inner_apply]
  unfold Front.gate Front.logSig
  by_cases h : i.val < 8
  · rw [dif_pos h, if_pos h]
  · have hi : (⟨8 + (i.val - 8), by omega⟩ : Fin 16) = i := Fin.ext (by simp only []; omega)
    rw [dif_neg h, if_neg h, hi]
    rfl

end Blocks

end Cert.Kernel1Ideal.Tile

end
-- ==== Proof.FrontOut.lean ====
/-
  The first half of the layer as functions of its ten arguments: the residual stream after the half step, the short
  convolution, the queries, keys, values and output gates, and the gates' preactivations, token by token.
-/
module

public import proofs.«01_k».proof.Proof.FrontSpec
public import proofs.«01_k».proof.Proof.FfnOut

@[expose] public section

noncomputable section

namespace Front

open Idealize.ShloMosaic

variable (x : FVec Ideal ⟨2, ![32768, 1024]⟩ .f32) (md : FVec Ideal ⟨4, ![24, 9, 1, 1024]⟩ .f32)
  (g : FVec Ideal ⟨3, ![6, 1, 1024]⟩ .f32) (up : FVec Ideal ⟨2, ![1024, 5632]⟩ .bf16)
  (dn : FVec Ideal ⟨2, ![2816, 1024]⟩ .bf16) (wc : FVec Ideal ⟨2, ![1024, 1536]⟩ .bf16)
  (wq : FVec Ideal ⟨2, ![1024, 2048]⟩ .bf16) (wg : FVec Ideal ⟨2, ![16, 1024]⟩ .bf16)
  (bg : FVec Ideal ⟨2, ![16, 1]⟩ .f32) (cw : FVec Ideal ⟨3, ![3, 1, 512]⟩ .f32)

/-- A token's residual row after the half step. -/
def residRow (n : Fin 32768) : Ffn.Row :=
  Ffn.tile (fun k => x (ix2 n k)) (fun k => g (ix3 0 0 k)) (fun k => g (ix3 1 0 k)) (fun k => md (ix4 (Ffn.elem n) 0 0 k))
    (fun k => md (ix4 (Ffn.elem n) 1 0 k)) (fun k => md (ix4 (Ffn.elem n) 2 0 k)) (fun e k => up (ix2 e k))
    (fun e k => dn (ix2 e k))

/-- The row that the combined projection reads. -/
def innerRow (n : Fin 32768) : Ffn.Row :=
  Ffn.mod (residRow x md g up dn n) (fun k => g (ix3 2 0 k)) (fun k => md (ix4 (Ffn.elem n) 3 0 k))
    (fun k => md (ix4 (Ffn.elem n) 4 0 k))

/-- The residual stream. -/
def xOut : FVec Ideal ⟨2, ![32768, 1024]⟩ .f32 := fun y => residRow x md g up dn (y 0) (y 1)

/-- The convolution's result. -/
def convOut : FVec Ideal ⟨2, ![32768, 512]⟩ .bf16 := fun y =>
  conv (innerRow x md g up dn) (fun e k => wc (ix2 e k)) (fun i k => cw (ix3 i 0 k)) (y 0) (y 1)

/-- Queries, keys, values and output gates. -/
def qkvoOut : FVec Ideal ⟨2, ![32768, 2048]⟩ .bf16 := fun y =>
  qkvo (innerRow x md g up dn (y 0)) (fun e k => wq (ix2 e k)) (y 1)

/-- The token at a position of a batch element. -/
def token (b : Fin 16) (s : Fin 2048) : Fin 32768 := ⟨b.val * 2048 + s.val, by omega⟩

/-- The gates' preactivations. -/
def gateOut : FVec Ideal ⟨3, ![16, 16, 2048]⟩ .f32 := fun y =>
  gate (innerRow x md g up dn (token (y 0) (y 2))) (fun i e => wg (ix2 i e)) (fun i => bg (ix2 i 0)) (y 1)

end Front

end

end
-- ==== Proof.FrontFinal.lean ====
/-
  The four arrays that the first half's kernel leaves are the functions of FrontOut.lean at its arguments: grid point `t`
  holds tokens `512 t` to `512 t + 511`, of batch element `t / 4`.
-/
module

public import proofs.«01_k».proof.Proof.FrontTile
public import proofs.«01_k».proof.Proof.FrontOut

@[expose] public section

set_option maxRecDepth 16384

noncomputable section

namespace Cert.Kernel1Ideal.Tile

open Idealize.ShloMosaic Idealize.ShloMosaic.TcCoe Idealize.SL.Sem Cert.Kernel1Ideal Cert.Kernel1Ideal.Gen
open Idealize.ShloMosaic.Pipeline (Dat)
open Cert.Kernel2Ideal.Tile (modRow gRow)

variable (m : (ℓ : Loc nD τ sig) → Buf (Elt Ideal) ℓ)

/-- Which block each window shows at a grid point. -/
theorem idx : ∀ t : Fin cfg0.N, win0_0.index t = ![t.val, 0] ∧ win0_1.index t = ![t.val / 4, 0, 0, 0]
    ∧ win0_2.index t = ![0, 0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0, 0]
    ∧ win0_10.index t = ![t.val, 0] ∧ win0_11.index t = ![t.val, 0] ∧ win0_12.index t = ![t.val, 0]
    ∧ win0_13.index t = ![t.val / 4, 0, t.val % 4] :=
  (by decide +kernel : ∀ t : Fin grid0.N, _)

/-- The residual row of a tile's token. -/
theorem resid_block (c : Dev nD) (t : Fin cfg0.N) (r : Fin 512) (n : Fin 32768) (hn : n.val = t.val * 512 + r.val) :
    resid (iblk m c 0 t) (iblk m c 1 t) (iblk m c 2 t) (iblk m c 3 t) (iblk m c 4 t) r
      = Front.residRow (m ((c : Thread nD τ).loc main_arg0)) (m ((c : Thread nD τ).loc main_arg1))
        (m ((c : Thread nD τ).loc main_arg2)) (m ((c : Thread nD τ).loc main_arg3)) (m ((c : Thread nD τ).loc main_arg4)) n := by
  have ht : t.val < 64 := t.isLt
  have h0 : ∀ k : Fin 1024, iblk m c 0 t (ix2 r k) = m ((c : Thread nD τ).loc main_arg0) (ix2 n k) := fun k => by
    blk_ext [iblk, V, idx t]
  have h1 : ∀ (i : Fin 9) (k : Fin 1024), iblk m c 1 t (ix4 0 i 0 k)
      = m ((c : Thread nD τ).loc main_arg1) (ix4 (Ffn.elem n) i 0 k) := fun i k => by
    blk_ext [iblk, V, idx t, Ffn.elem]
  have h2 : ∀ (i : Fin 6) (k : Fin 1024), iblk m c 2 t (ix3 i 0 k) = m ((c : Thread nD τ).loc main_arg2) (ix3 i 0 k) :=
    fun i k => by blk_ext [iblk, V, idx t]
  have h3 : ∀ (e : Fin 1024) (k : Fin 5632), iblk m c 3 t (ix2 e k) = m ((c : Thread nD τ).loc main_arg3) (ix2 e k) :=
    fun e k => by blk_ext [iblk, V, idx t]
  have h4 : ∀ (e : Fin 2816) (k : Fin 1024), iblk m c 4 t (ix2 e k) = m ((c : Thread nD τ).loc main_arg4) (ix2 e k) :=
    fun e k => by blk_ext [iblk, V, idx t]
  unfold resid Front.residRow gRow modRow
  simp only [h0, h1, h2, h3, h4]

/-- The projection's row of a tile's token. -/
theorem inner_block (c : Dev nD) (t : Fin cfg0.N) (r : Fin 512) (n : Fin 32768) (hn : n.val = t.val * 512 + r.val) :
    inner (iblk m c 0 t) (iblk m c 1 t) (iblk m c 2 t) (iblk m c 3 t) (iblk m c 4 t) r
      = Front.innerRow (m ((c : Thread nD τ).loc main_arg0)) (m ((c : Thread nD τ).loc main_arg1))
        (m ((c : Thread nD τ).loc main_arg2)) (m ((c : Thread nD τ).loc main_arg3)) (m ((c : Thread nD τ).loc main_arg4)) n := by
  have ht : t.val < 64 := t.isLt
  have h1 : ∀ (i : Fin 9) (k : Fin 1024), iblk m c 1 t (ix4 0 i 0 k)
      = m ((c : Thread nD τ).loc main_arg1) (ix4 (Ffn.elem n) i 0 k) := fun i k => by
    blk_ext [iblk, V, idx t, Ffn.elem]
  have h2 : ∀ (i : Fin 6) (k : Fin 1024), iblk m c 2 t (ix3 i 0 k) = m ((c : Thread nD τ).loc main_arg2) (ix3 i 0 k) :=
    fun i k => by blk_ext [iblk, V, idx t]
  unfold inner Front.innerRow
  rw [resid_block m c t r n hn]
  unfold gRow modRow
  simp only [h1, h2]

/-- The residual stream after the run. -/
theorem final_x (c : Dev nD) : (dats m 0 c).arrAt 10 (cfgs 0).N
    = Front.xOut (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 10 _ (by decide +kernel) fun t _ y => ?_
  blk_simp
  rw [after0_10]
  obtain ⟨r, j, rfl⟩ : ∃ (r : Fin 512) (j : Fin 1024), y = ix2 r j := ⟨y 0, y 1, by funext a; match a with | ⟨0, _⟩ => rfl | ⟨1, _⟩ => rfl⟩
  rw [stored_x]
  unfold Front.xOut
  rw [resid_block m c t r ((win0_10.blk t).view.emb (ix2 r j) 0) (by blk_simp [idx t])]
  congr 1
  apply Fin.ext
  blk_simp [idx t]

/-- The convolution after the run. -/
theorem final_conv (c : Dev nD) : (dats m 0 c).arrAt 11 (cfgs 0).N
    = Front.convOut (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg9)) := by
  refine (dats m 0 c).arrAt_eq_of_covers 11 _ (by decide +kernel) fun t _ y => ?_
  blk_simp
  rw [after0_11]
  obtain ⟨r, j, rfl⟩ : ∃ (r : Fin 512) (j : Fin 512), y = ix2 r j := ⟨y 0, y 1, by funext a; match a with | ⟨0, _⟩ => rfl | ⟨1, _⟩ => rfl⟩
  rw [stored_conv]
  unfold Front.convOut
  generalize hn : (win0_11.blk t).view.emb (ix2 r j) 0 = n
  generalize hj : (win0_11.blk t).view.emb (ix2 r j) 1 = j'
  replace hn : n.val = t.val * 512 + r.val := by rw [← hn]; blk_simp [idx t]
  replace hj : j' = j := by rw [← hj]; apply Fin.ext; blk_simp [idx t]
  have ht : t.val < 64 := t.isLt
  have h5 : ∀ (e : Fin 1024) (k : Fin 1536), iblk m c 5 t (ix2 e k) = m ((c : Thread nD τ).loc main_arg5) (ix2 e k) :=
    fun e k => by blk_ext [iblk, V, idx t]
  have h9 : ∀ (i : Fin 3) (k : Fin 512), iblk m c 9 t (ix3 i 0 k) = m ((c : Thread nD τ).loc main_arg9) (ix3 i 0 k) :=
    fun i k => by blk_ext [iblk, V, idx t]
  simp only [h5, h9, hj]
  refine Front.conv_congr _ _ _ (by omega) (inner_block m c t r n hn) (fun h => inner_block m c t _ _ ?_)
    fun h => inner_block m c t _ _ ?_
  · simp only [Front.before]; omega
  · simp only [Front.after]; omega

/-- Queries, keys, values and output gates after the run. -/
theorem final_qkvo (c : Dev nD) : (dats m 0 c).arrAt 12 (cfgs 0).N
    = Front.qkvoOut (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg6)) := by
  refine (dats m 0 c).arrAt_eq_of_covers 12 _ (by decide +kernel) fun t _ y => ?_
  blk_simp
  rw [after0_12]
  obtain ⟨r, j, rfl⟩ : ∃ (r : Fin 512) (j : Fin 2048), y = ix2 r j := ⟨y 0, y 1, by funext a; match a with | ⟨0, _⟩ => rfl | ⟨1, _⟩ => rfl⟩
  rw [stored_qkvo]
  unfold Front.qkvoOut
  have h6 : ∀ (e : Fin 1024) (k : Fin 2048), iblk m c 6 t (ix2 e k) = m ((c : Thread nD τ).loc main_arg6) (ix2 e k) :=
    fun e k => by blk_ext [iblk, V, idx t]
  rw [inner_block m c t r ((win0_12.blk t).view.emb (ix2 r j) 0) (by blk_simp [idx t])]
  simp only [h6]
  congr 1
  apply Fin.ext
  blk_simp [idx t]

/-- The gates after the run. -/
theorem final_gate (c : Dev nD) : (dats m 0 c).arrAt 13 (cfgs 0).N
    = Front.gateOut (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg7)) (m ((c : Thread nD τ).loc main_arg8)) := by
  refine (dats m 0 c).arrAt_eq_of_covers 13 _ (by decide +kernel) fun t _ y => ?_
  blk_simp
  rw [after0_13]
  obtain ⟨i, r, rfl⟩ : ∃ (i : Fin 16) (r : Fin 512), y = ix3 0 i r := ⟨y 1, y 2, by
    funext a; match a with | ⟨0, _⟩ => exact Subsingleton.elim (α := Fin 1) _ _ | ⟨1, _⟩ => rfl | ⟨2, _⟩ => rfl⟩
  rw [stored_gate]
  unfold Front.gateOut
  have ht : t.val < 64 := t.isLt
  have h7 : ∀ (e : Fin 16) (k : Fin 1024), iblk m c 7 t (ix2 e k) = m ((c : Thread nD τ).loc main_arg7) (ix2 e k) :=
    fun e k => by blk_ext [iblk, V, idx t]
  have h8 : ∀ e : Fin 16, iblk m c 8 t (ix2 e 0) = m ((c : Thread nD τ).loc main_arg8) (ix2 e 0) :=
    fun e => by blk_ext [iblk, V, idx t]
  generalize hb : (win0_13.blk t).view.emb (ix3 0 i r) 0 = b
  generalize hi : (win0_13.blk t).view.emb (ix3 0 i r) 1 = i'
  generalize hs : (win0_13.blk t).view.emb (ix3 0 i r) 2 = s
  replace hb : b.val = t.val / 4 := by rw [← hb]; blk_simp [idx t]; rfl
  replace hi : i' = i := by rw [← hi]; apply Fin.ext; blk_simp [idx t]
  replace hs : s.val = t.val % 4 * 512 + r.val := by rw [← hs]; blk_simp [idx t]
  rw [inner_block m c t r (Front.token b s) (by simp only [Front.token]; omega)]
  simp only [h7, h8, hi]

/-- The kernel leaves the four functions in its results and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = Front.xOut (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v0_1) = Front.convOut (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg9))
      ∧ r.2.mem ((c.tc : Thread nD τ).loc main_v0_2) = Front.qkvoOut (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg6))
      ∧ r.2.mem ((c.tc : Thread nD τ).loc main_v0_3) = Front.gateOut (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨((h.1 c).1 10).trans (final_x m c), ((h.1 c).1 11).trans (final_conv m c),
    ((h.1 c).1 12).trans (final_qkvo m c), ((h.1 c).1 13).trans (final_gate m c), h.2 c⟩)
    (θ_run_and (run_main m ρ) (unchanged m ρ))

end Cert.Kernel1Ideal.Tile

end
-- ==== Proof.FrontRef.lean ====
/-
  The reference's four composed terms, cut at the residual stream, the row the projection reads, and the columns of the
  projection, and read at an index: they are the functions of FrontOut.lean. The half step's stages are those of FfnRef.lean.
-/
module

public import proofs.«01_k».proof.Proof.Gen.Reference1Ideal.Run
public import proofs.«01_k».proof.Proof.FfnRef
public import proofs.«01_k».proof.Proof.FrontOut

@[expose] public section

set_option maxRecDepth 16384

noncomputable section

namespace Cert.Reference1Ideal.Layer

open Idealize.ShloMosaic Idealize.ShloMosaic.TcCoe Idealize.SL.Sem Cert.Reference1Ideal Cert.Reference1Ideal.Gen
open Idealize.ShloMosaic.StableHlo
open Cert.Reference2Ideal.Layer (mods spread norm upT hidT downT gTab bOf sOf)

section Tensors

variable {F : FTy → Type} [FloatOps F]

/-- A part of the modulation. -/
def part (i : ℕ) (x : FVec F S16x9x1024 .f32) (h : S16x9x1024.Slices ![0, i, 0] S16x1x1024) : FVec F S16x1x1024 .f32 :=
  broadcastInDim S16x1x1024 ![0, 2] bcast_S16x1024_S16x1x1024_0_2 (shapeCast S16x1024
    (extractStridedSlice S16x1x1024 ![0, i, 0] x h) shapeCasts_S16x1x1024_S16x1024)

/-- A weight of the norms. -/
def weight (i : ℕ) (g : FVec F S6x1x1024 .f32) (h : S6x1024.Slices ![i, 0] S1x1024) : FVec F S1x1024 .f32 :=
  extractStridedSlice S1x1024 ![i, 0] (gTab g) h

/-- The normalized stream, scaled and shifted. -/
def modT (x : FVec F S16x2048x1024 .f32) (shift scale : FVec F S16x1x1024 .f32) (g : FVec F S1x1024 .f32) :
    FVec F S16x2048x1024 .f32 :=
  addf (mulf (norm x g) (spread (addf (broadcastInDim S16x1x1024 ![] bcast_S_S16x1x1024 (constant S_ .f32 0x3F800000#32))
    scale))) (spread shift)

/-- The half step's close. -/
def closeT (x y : FVec F S16x2048x1024 .f32) (gate : FVec F S16x1x1024 .f32) (g : FVec F S1x1024 .f32) :
    FVec F S16x2048x1024 .f32 :=
  addf x (mulf (spread (mulf
    (broadcastInDim S16x1x1024 ![] bcast_S_S16x1x1024 (constant S_ .f32 0x3F000000#32)) gate)) (norm y g))

/-- The stream by batch element. -/
def streamT (x : FVec F S32768x1024 .f32) : FVec F S16x2048x1024 .f32 :=
  shapeCast S16x2048x1024 x shapeCasts_S32768x1024_S16x2048x1024

/-- The residual stream after the half step. -/
def residT (x : FVec F S32768x1024 .f32) (md : FVec F S24x9x1x1024 .f32) (g : FVec F S6x1x1024 .f32)
    (wu : FVec F S1024x5632 .bf16) (wd : FVec F S2816x1024 .bf16) : FVec F S16x2048x1024 .f32 :=
  closeT (streamT x) (downT (hidT (upT (modT (streamT x) (part 0 (mods md) slices_S16x9x1024_S16x1x1024_0_0_0)
      (part 1 (mods md) slices_S16x9x1024_S16x1x1024_0_1_0) (weight 0 g slices_S6x1024_S1x1024_0_0)) wu)) wd)
    (part 2 (mods md) slices_S16x9x1024_S16x1x1024_0_2_0) (weight 1 g slices_S6x1024_S1x1024_1_0)

/-- The stream that the projection reads. -/
def innerT (x : FVec F S32768x1024 .f32) (md : FVec F S24x9x1x1024 .f32) (g : FVec F S6x1x1024 .f32)
    (wu : FVec F S1024x5632 .bf16) (wd : FVec F S2816x1024 .bf16) : FVec F S16x2048x1024 .f32 :=
  modT (residT x md g wu wd) (part 3 (mods md) slices_S16x9x1024_S16x1x1024_0_3_0)
    (part 4 (mods md) slices_S16x9x1024_S16x1x1024_0_4_0) (weight 2 g slices_S6x1024_S1x1024_2_0)

/-- The convolution's columns. -/
def colsT (h : FVec F S16x2048x1024 .f32) (w : FVec F S1024x1536 .bf16) : FVec F S16x2048x1536 .f32 :=
  Host.dotGeneral dot_S16x2048x1024_S1024x1536_S16x2048x1536_2_0_01_1_n_n none h (extf .f32 w bitsLt_bf16_f32)

/-- The convolution's input. -/
def inT (p : FVec F S16x2048x1536 .f32) : FVec F S16x2048x512 .f32 :=
  mulf (extractStridedSlice S16x2048x512 ![0, 0, 512] p slices_S16x2048x1536_S16x2048x512_0_0_512)
    (extractStridedSlice S16x2048x512 ![0, 0, 1024] p slices_S16x2048x1536_S16x2048x512_0_0_1024)

/-- The input by grid rows, with a zero at either end. -/
def padT (u : FVec F S16x2048x512 .f32) : FVec F S16x32x66x512 .f32 :=
  pad S16x32x66x512 ![0, 0, 1, 0] ![0, 0, 1, 0] ![0, 0, 0, 0]
    (shapeCast S16x32x64x512 u shapeCasts_S16x2048x512_S16x32x64x512)
    (sitofp .f32 (constantI S_ 32 0#32)) pads_S16x32x64x512_S16x32x66x512_000_000_110_000 h_S_

/-- A tap's weights over the stream. -/
def tapW (i : ℕ) (w : FVec F S3x1x512 .f32) (h : S3x512.Slices ![i, 0] S1x512) : FVec F S16x32x64x512 .f32 :=
  broadcastInDim S16x32x64x512 ![0, 1, 2, 3] bcast_S1x1x1x512_S16x32x64x512_0_1_2_3
    (broadcastInDim S1x1x1x512 ![3] bcast_S512_S1x1x1x512_3 (shapeCast S512
      (extractStridedSlice S1x512 ![i, 0] (shapeCast S3x512 w shapeCasts_S3x1x512_S3x512) h) shapeCasts_S1x512_S512))

/-- The three taps' sum. -/
def tapsT (u : FVec F S16x2048x512 .f32) (w : FVec F S3x1x512 .f32) : FVec F S16x32x64x512 .f32 :=
  addf (addf
    (mulf (tapW 0 w slices_S3x512_S1x512_0_0)
      (extractStridedSlice S16x32x64x512 ![0, 0, 0, 0] (padT u) slices_S16x32x66x512_S16x32x64x512_0_0_0_0))
    (mulf (tapW 1 w slices_S3x512_S1x512_1_0)
      (extractStridedSlice S16x32x64x512 ![0, 0, 1, 0] (padT u) slices_S16x32x66x512_S16x32x64x512_0_0_1_0)))
    (mulf (tapW 2 w slices_S3x512_S1x512_2_0)
      (extractStridedSlice S16x32x64x512 ![0, 0, 2, 0] (padT u) slices_S16x32x66x512_S16x32x64x512_0_0_2_0))

/-- The gated convolution. -/
def convT (p : FVec F S16x2048x1536 .f32) (w : FVec F S3x1x512 .f32) : FVec F S32768x512 .bf16 :=
  shapeCast S32768x512 (truncf .bf16 (mulf
    (extractStridedSlice S16x2048x512 ![0, 0, 0] p slices_S16x2048x1536_S16x2048x512_0_0_0)
    (shapeCast S16x2048x512 (tapsT (inT p) w) shapeCasts_S16x32x64x512_S16x2048x512)) bitsLt_bf16_f32)
    shapeCasts_S16x2048x512_S32768x512

/-- The columns of queries, keys, values and output gates. -/
def qcolsT (h : FVec F S16x2048x1024 .f32) (w : FVec F S1024x2048 .bf16) : FVec F S16x2048x2048 .f32 :=
  Host.dotGeneral dot_S16x2048x1024_S1024x2048_S16x2048x2048_2_0_01_1_n_n none h (extf .f32 w bitsLt_bf16_f32)

/-- The same with the keys divided by the root of the head's width. -/
def qkvoT (p : FVec F S16x2048x2048 .f32) : FVec F S32768x2048 .bf16 :=
  shapeCast S32768x2048 (truncf .bf16 (concatenate S16x2048x2048 2
    [⟨S16x2048x512, extractStridedSlice S16x2048x512 ![0, 0, 0] p slices_S16x2048x2048_S16x2048x512_0_0_0⟩,
     ⟨S16x2048x512, Host.divf (extractStridedSlice S16x2048x512 ![0, 0, 512] p slices_S16x2048x2048_S16x2048x512_0_0_512)
        (broadcastInDim S16x2048x512 ![] bcast_S_S16x2048x512 (Host.sqrt (constant S_ .f32 0x43000000#32)))⟩,
     ⟨S16x2048x512, extractStridedSlice S16x2048x512 ![0, 0, 1024] p slices_S16x2048x2048_S16x2048x512_0_0_1024⟩,
     ⟨S16x2048x512, extractStridedSlice S16x2048x512 ![0, 0, 1536] p slices_S16x2048x2048_S16x2048x512_0_0_1536⟩]
    concatenates_S16x2048x512_S16x2048x512_S16x2048x512_S16x2048x512_S16x2048x2048_d2) bitsLt_bf16_f32)
    shapeCasts_S16x2048x2048_S32768x2048

/-- The gates' preactivations. -/
def preT (h : FVec F S16x2048x1024 .f32) (w : FVec F S16x1024 .bf16) (b : FVec F S16x1 .f32) : FVec F S16x16x2048 .f32 :=
  transpose S16x16x2048 [0, 2, 1] (addf (Host.dotGeneral dot_S16x2048x1024_S1024x16_S16x2048x16_2_0_01_1_n_n none h
      (transpose S1024x16 [1, 0] (extf .f32 w bitsLt_bf16_f32) transposes_S16x1024_S1024x16_1_0))
    (broadcastInDim S16x2048x16 ![0, 1, 2] bcast_S1x1x16_S16x2048x16_0_1_2
      (broadcastInDim S1x1x16 ![2] bcast_S16_S1x1x16_2 (shapeCast S16 b shapeCasts_S16x1_S16))))
    transposes_S16x2048x16_S16x16x2048_0_2_1

/-- The logarithm of the logistic function. -/
def logSigT (x : FVec F S16x8x2048 .f32) : FVec F S16x8x2048 .f32 :=
  have z := broadcastInDim S16x8x2048 ![] bcast_S_S16x8x2048 (constant S_ .f32 0x00000000#32)
  have d := subf (Host.negf x) z
  Host.negf (select (cmpf .une d d) (addf (Host.negf x) z)
    (addf (maximumf (Host.negf x) z) (Host.log1p (Host.exp (Host.negf (Host.absf d))))))

/-- The gates. -/
def gateT (p : FVec F S16x16x2048 .f32) : FVec F S16x16x2048 .f32 :=
  concatenate S16x16x2048 1 [⟨S16x8x2048, extractStridedSlice S16x8x2048 ![0, 0, 0] p slices_S16x16x2048_S16x8x2048_0_0_0⟩,
    ⟨S16x8x2048, logSigT (extractStridedSlice S16x8x2048 ![0, 8, 0] p slices_S16x16x2048_S16x8x2048_0_8_0)⟩]
    concatenates_S16x8x2048_S16x8x2048_S16x16x2048_d1

end Tensors

theorem part_apply (i : ℕ) (hi : i < 9) (x : FVec Ideal S16x9x1024 .f32) (h) (b : Fin 16) (k : Fin 1024) :
    part i x h (ix3 b 0 k) = x (ix3 b ⟨i, hi⟩ k) := by
  unfold part
  pointwise

theorem weight_apply (i : ℕ) (hi : i < 6) (g : FVec Ideal S6x1x1024 .f32) (h) (k : Fin 1024) :
    weight i g h (ix2 0 k) = g (ix3 ⟨i, hi⟩ 0 k) := by
  unfold weight gTab
  pointwise
  blk_ext

theorem modT_apply (x : FVec Ideal S16x2048x1024 .f32) (shift scale : FVec Ideal S16x1x1024 .f32)
    (g : FVec Ideal S1x1024 .f32) (b : Fin 16) (s : Fin 2048) (j : Fin 1024) :
    modT x shift scale g (ix3 b s j) = Ffn.mod (fun k => x (ix3 b s k)) (fun k => g (ix2 0 k)) (fun k => shift (ix3 b 0 k))
      (fun k => scale (ix3 b 0 k)) j := by
  unfold modT Ffn.mod
  pointwise [spread]
  rw [Cert.Reference2Ideal.Layer.norm_apply]

theorem closeT_apply (x y : FVec Ideal S16x2048x1024 .f32) (gate : FVec Ideal S16x1x1024 .f32)
    (g : FVec Ideal S1x1024 .f32) (b : Fin 16) (s : Fin 2048) (j : Fin 1024) :
    closeT x y gate g (ix3 b s j) = x (ix3 b s j)
      + Ffn.cHalf * gate (ix3 b 0 j) * Ffn.rms (fun k => y (ix3 b s k)) (fun k => g (ix2 0 k)) j := by
  unfold closeT
  pointwise [spread]
  rw [Cert.Reference2Ideal.Layer.norm_apply]

section Args

variable (x : FVec Ideal S32768x1024 .f32) (md : FVec Ideal S24x9x1x1024 .f32) (g : FVec Ideal S6x1x1024 .f32)
  (wu : FVec Ideal S1024x5632 .bf16) (wd : FVec Ideal S2816x1024 .bf16)

theorem resid_apply (n : Fin 32768) (j : Fin 1024) :
    residT x md g wu wd (ix3 (bOf n) (sOf n) j) = Front.residRow x md g wu wd n j := by
  have hx : ∀ k, streamT x (ix3 (bOf n) (sOf n) k) = x (ix2 n k) := fun k => by
    unfold streamT
    pointwise
    blk_ext [bOf, sOf]
  unfold residT Front.residRow
  rw [closeT_apply]
  simp only [Cert.Reference2Ideal.Layer.down_apply, Cert.Reference2Ideal.Layer.hid_apply, modT_apply, hx]
  simp only [part_apply 0 (by decide), part_apply 1 (by decide), part_apply 2 (by decide),
    weight_apply 0 (by decide), weight_apply 1 (by decide), Cert.Reference2Ideal.Layer.mods_apply]
  rfl

theorem inner_apply (n : Fin 32768) (j : Fin 1024) :
    innerT x md g wu wd (ix3 (bOf n) (sOf n) j) = Front.innerRow x md g wu wd n j := by
  unfold innerT Front.innerRow
  rw [modT_apply]
  simp only [resid_apply, part_apply 3 (by decide), part_apply 4 (by decide), weight_apply 2 (by decide),
     Cert.Reference2Ideal.Layer.mods_apply]
  rfl

end Args

theorem in_apply (h : FVec Ideal S16x2048x1024 .f32) (w : FVec Ideal S1024x1536 .bf16) (b : Fin 16) (s : Fin 2048)
    (c : Fin 512) : inT (colsT h w) (ix3 b s c) = Front.convIn (fun k => h (ix3 b s k)) (fun e k => w (ix2 e k)) c := by
  unfold inT colsT Front.convIn Front.lin
  pointwise

theorem pad_apply (u : FVec Ideal S16x2048x512 .f32) (b : Fin 16) (r : Fin 32) (q : Fin 66) (c : Fin 512) :
    padT u (ix4 b r q c)
      = if h : 1 ≤ q.val ∧ q.val - 1 < 64 then u (ix3 b ⟨r.val * 64 + (q.val - 1), by omega⟩ c) else 0 := by
  unfold padT
  pointwise
  have hz : (FloatOps.sitofp FTy.f32 0#32 : Ideal .f32) = 0 := by
    change (((0#32).toInt : ℝ) : EReal) = 0
    simp
  rw [hz]

/-- A tap within the grid row reads a neighbouring token. -/
theorem tap_within (u : FVec Ideal S16x2048x512 .f32) (n m : Fin 32768) (q : Fin 66) (c : Fin 512)
    (hq : 1 ≤ q.val ∧ q.val - 1 < 64) (hb : n.val / 2048 = m.val / 2048)
    (hs : n.val % 2048 / 64 * 64 + (q.val - 1) = m.val % 2048) :
    padT u (ix4 ⟨n.val / 2048, by omega⟩ ⟨n.val % 2048 / 64, by omega⟩ q c) = u (ix3 (bOf m) (sOf m) c) := by
  rw [pad_apply, dif_pos hq]
  have e1 : (⟨n.val / 2048, by omega⟩ : Fin 16) = bOf m := Fin.ext hb
  have e2 : (⟨n.val % 2048 / 64 * 64 + (q.val - 1), by omega⟩ : Fin 2048) = sOf m := Fin.ext hs
  rw [e1, e2]

/-- A tap beyond the grid row reads a zero. -/
theorem tap_beyond (u : FVec Ideal S16x2048x512 .f32) (b : Fin 16) (r : Fin 32) (q : Fin 66) (c : Fin 512)
    (hq : ¬ (1 ≤ q.val ∧ q.val - 1 < 64)) : padT u (ix4 b r q c) = 0 := by
  rw [pad_apply, dif_neg hq]

theorem conv_apply (h : FVec Ideal S16x2048x1024 .f32) (w : FVec Ideal S1024x1536 .bf16) (cw : FVec Ideal S3x1x512 .f32)
    (n : Fin 32768) (c : Fin 512) : convT (colsT h w) cw (ix2 n c)
      = Front.conv (fun n k => h (ix3 (bOf n) (sOf n) k)) (fun e k => w (ix2 e k)) (fun i k => cw (ix3 i 0 k)) n c := by
  have h0 : padT (inT (colsT h w)) (ix4 ⟨n.val / 2048, by omega⟩ ⟨n.val % 2048 / 64, by omega⟩ ⟨n.val % 2048 % 64, by omega⟩ c)
      = if n.val % 64 = 0 then 0
        else Front.convIn (fun k => h (ix3 (bOf (Front.before n)) (sOf (Front.before n)) k)) (fun e k => w (ix2 e k)) c := by
    by_cases hn : n.val % 64 = 0
    · rw [if_pos hn, tap_beyond _ _ _ _ _ (by simp only []; omega)]
    · rw [if_neg hn, tap_within _ n (Front.before n) _ _ (by simp only []; omega) (by simp only [Front.before]; omega)
        (by simp only [Front.before]; omega), in_apply]
  have h1 : padT (inT (colsT h w)) (ix4 ⟨n.val / 2048, by omega⟩ ⟨n.val % 2048 / 64, by omega⟩ ⟨1 + n.val % 2048 % 64, by omega⟩ c)
      = Front.convIn (fun k => h (ix3 (bOf n) (sOf n) k)) (fun e k => w (ix2 e k)) c := by
    rw [tap_within _ n n _ _ (by simp only []; omega) rfl (by simp only []; omega), in_apply]
  have h2 : padT (inT (colsT h w)) (ix4 ⟨n.val / 2048, by omega⟩ ⟨n.val % 2048 / 64, by omega⟩ ⟨2 + n.val % 2048 % 64, by omega⟩ c)
      = if n.val % 64 = 63 then 0
        else Front.convIn (fun k => h (ix3 (bOf (Front.after n)) (sOf (Front.after n)) k)) (fun e k => w (ix2 e k)) c := by
    by_cases hn : n.val % 64 = 63
    · rw [if_pos hn, tap_beyond _ _ _ _ _ (by simp only []; omega)]
    · rw [if_neg hn, tap_within _ n (Front.after n) _ _ (by simp only []; omega) (by simp only [Front.after]; omega)
        (by simp only [Front.after]; omega), in_apply]
  unfold convT tapsT tapW
  pointwise
  rw [h0, h1, h2]
  unfold Front.conv Front.lin colsT
  pointwise
  rfl

theorem qkvo_apply (h : FVec Ideal S16x2048x1024 .f32) (w : FVec Ideal S1024x2048 .bf16) (n : Fin 32768) (c : Fin 2048) :
    qkvoT (qcolsT h w) (ix2 n c) = Front.qkvo (fun k => h (ix3 (bOf n) (sOf n) k)) (fun e k => w (ix2 e k)) c := by
  unfold qkvoT qcolsT Front.qkvo Front.lin
  pointwise
  by_cases h1 : c.val < 512
  · have hn : ¬ c.val / 512 = 1 := by omega
    rw [dif_pos h1, if_neg hn]
    rfl
  rw [dif_neg h1]
  by_cases h2 : c.val - 512 < 512
  · have e : (⟨512 + (c.val - 512), by omega⟩ : Fin 2048) = c := Fin.ext (by simp only []; omega)
    have hp : c.val / 512 = 1 := by omega
    rw [dif_pos h2, if_pos hp, e]
    exact Front.div_root _
  have hn : ¬ c.val / 512 = 1 := by omega
  rw [dif_neg h2, if_neg hn]
  by_cases h3 : c.val - 512 - 512 < 512
  · have e : (⟨1024 + (c.val - 512 - 512), by omega⟩ : Fin 2048) = c := Fin.ext (by simp only []; omega)
    rw [dif_pos h3, e]
    rfl
  · have e : (⟨1536 + (c.val - 512 - 512 - 512), by omega⟩ : Fin 2048) = c := Fin.ext (by simp only []; omega)
    rw [dif_neg h3, e]
    rfl

theorem log1p_exp_ne_bot (y : EReal) : Ideal.log1p (Ideal.exp y) ≠ ⊥ := by
  unfold Ideal.log1p
  induction y with
  | bot =>
    change Ideal.log (1 + 0) ≠ ⊥
    have e : (1 + 0 : EReal) = ((1 : ℝ) : EReal) := by simp
    rw [e]
    change (if (1 : ℝ) ≤ 0 then ⊥ else (Real.log 1 : EReal)) ≠ ⊥
    rw [if_neg (by norm_num)]
    exact EReal.coe_ne_bot _
  | top =>
    change Ideal.log (1 + ⊤) ≠ ⊥
    have e : (1 + ⊤ : EReal) = ⊤ := EReal.coe_add_top 1
    rw [e]
    exact top_ne_bot
  | coe r =>
    change Ideal.log (1 + (Real.exp r : EReal)) ≠ ⊥
    have e : (1 + (Real.exp r : EReal)) = ((1 + Real.exp r : ℝ) : EReal) := by push_cast; rfl
    rw [e]
    change (if 1 + Real.exp r ≤ 0 then ⊥ else (Real.log (1 + Real.exp r) : EReal)) ≠ ⊥
    rw [if_neg (by have := Real.exp_pos r; linarith)]
    exact EReal.coe_ne_bot _

/-- The reference's logarithm of the logistic function is the kernel's. -/
theorem logSig_eq (x : EReal) :
    -(max (-x) 0 + Ideal.log1p (Ideal.exp (-max (-x) (- -x)))) = Front.logSig x := by
  have e : (0 : EReal) - max x (-x) = -max (-x) (- -x) := by rw [zero_sub, neg_neg, max_comm]
  have hm : -max (-x) 0 = min x 0 := by
    rcases le_total 0 x with hx | hx
    · rw [max_eq_right (by simpa using hx), min_eq_right hx, neg_zero]
    · rw [max_eq_left (by simpa using hx), min_eq_left hx, neg_neg]
  unfold Front.logSig
  rw [e, EReal.neg_add (Or.inl (ne_of_gt (lt_of_lt_of_le EReal.bot_lt_zero (le_max_right _ _)))) (Or.inr (log1p_exp_ne_bot _)),
    hm]

theorem gate_apply (h : FVec Ideal S16x2048x1024 .f32) (w : FVec Ideal S16x1024 .bf16) (bg : FVec Ideal S16x1 .f32)
    (b i : Fin 16) (s : Fin 2048) : gateT (preT h w bg) (ix3 b i s)
      = Front.gate (fun k => h (ix3 b s k)) (fun i e => w (ix2 i e)) (fun i => bg (ix2 i 0)) i := by
  unfold gateT logSigT preT
  pointwise
  unfold Front.gate
  by_cases hi : i.val < 8
  · rw [dif_pos hi, if_pos hi]
    simp only [mul_comm]
  · have e : (⟨8 + (i.val - 8), by omega⟩ : Fin 16) = i := Fin.ext (by simp only []; omega)
    rw [dif_neg hi]
    simp only [if_neg hi, e, ne_eq, not_true_eq_false, if_false, Ideal.absf_def, logSig_eq, mul_comm]

section Results

variable (x : FVec Ideal S32768x1024 .f32) (md : FVec Ideal S24x9x1x1024 .f32) (g : FVec Ideal S6x1x1024 .f32)
  (wu : FVec Ideal S1024x5632 .bf16) (wd : FVec Ideal S2816x1024 .bf16)

theorem x_eq : shapeCast S32768x1024 (residT x md g wu wd) shapeCasts_S16x2048x1024_S32768x1024 = Front.xOut x md g wu wd := by
  funext y
  obtain ⟨n, j, rfl⟩ : ∃ n j, y = ix2 n j := ⟨y 0, y 1, by funext a; match a with | ⟨0, _⟩ => rfl | ⟨1, _⟩ => rfl⟩
  pointwise
  exact resid_apply x md g wu wd n j

theorem conv_eq (w : FVec Ideal S1024x1536 .bf16) (cw : FVec Ideal S3x1x512 .f32) :
    convT (colsT (innerT x md g wu wd) w) cw = Front.convOut x md g wu wd w cw := by
  funext y
  obtain ⟨n, j, rfl⟩ : ∃ n j, y = ix2 n j := ⟨y 0, y 1, by funext a; match a with | ⟨0, _⟩ => rfl | ⟨1, _⟩ => rfl⟩
  rw [conv_apply]
  simp only [inner_apply]
  rfl

theorem qkvo_eq (w : FVec Ideal S1024x2048 .bf16) :
    qkvoT (qcolsT (innerT x md g wu wd) w) = Front.qkvoOut x md g wu wd w := by
  funext y
  obtain ⟨n, j, rfl⟩ : ∃ n j, y = ix2 n j := ⟨y 0, y 1, by funext a; match a with | ⟨0, _⟩ => rfl | ⟨1, _⟩ => rfl⟩
  rw [qkvo_apply]
  simp only [inner_apply]
  rfl

theorem gate_eq (w : FVec Ideal S16x1024 .bf16) (bg : FVec Ideal S16x1 .f32) :
    gateT (preT (innerT x md g wu wd) w bg) = Front.gateOut x md g wu wd w bg := by
  funext y
  obtain ⟨b, i, s, rfl⟩ : ∃ b i s, y = ix3 b i s := ⟨y 0, y 1, y 2, by
    funext a; match a with | ⟨0, _⟩ => rfl | ⟨1, _⟩ => rfl | ⟨2, _⟩ => rfl⟩
  have hb : bOf (Front.token b s) = b := Fin.ext (by simp only [bOf, Front.token]; omega)
  have hs : sOf (Front.token b s) = s := Fin.ext (by simp only [sOf, Front.token]; omega)
  have hr := fun k => inner_apply x md g wu wd (Front.token b s) k
  rw [hb, hs] at hr
  rw [gate_apply]
  simp only [hr]
  rfl

end Results

section Runs

variable {F : FTy → Type} [FloatOps F] (m : (ℓ : Loc nD τ sig) → Buf (Elt F) ℓ) (c : Dev nD)

set_option maxHeartbeats 4000000 in
theorem resid_eq : Cert.Reference1Ideal.Value.res_main_v61 (launchContents m c)
    = residT (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := rfl

set_option maxHeartbeats 4000000 in
theorem inner_eq : Cert.Reference1Ideal.Value.res_main_v88 (launchContents m c)
    = innerT (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := rfl

set_option maxHeartbeats 4000000 in
theorem cols_eq : Cert.Reference1Ideal.Value.res_main_v90 (launchContents m c)
    = colsT (Cert.Reference1Ideal.Value.res_main_v88 (launchContents m c)) (m ((c.tc : Thread nD τ).loc main_arg5)) := rfl

set_option maxHeartbeats 4000000 in
theorem qcols_eq : Cert.Reference1Ideal.Value.res_main_v121 (launchContents m c)
    = qcolsT (Cert.Reference1Ideal.Value.res_main_v88 (launchContents m c)) (m ((c.tc : Thread nD τ).loc main_arg6)) := rfl

set_option maxHeartbeats 4000000 in
theorem pre_eq : Cert.Reference1Ideal.Value.res_main_v137 (launchContents m c)
    = preT (Cert.Reference1Ideal.Value.res_main_v88 (launchContents m c)) (m ((c.tc : Thread nD τ).loc main_arg7))
      (m ((c.tc : Thread nD τ).loc main_arg8)) := rfl

end Runs

section Run

variable (m : (ℓ : Loc nD τ sig) → Buf (Elt Ideal) ℓ) (c : Dev nD)

/-- The reference leaves the four functions in its results and its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v142) = Front.xOut (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v144) = Front.convOut (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg9))
      ∧ r.2.mem ((c.tc : Thread nD τ).loc main_v146) = Front.qkvoOut (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg6))
      ∧ r.2.mem ((c.tc : Thread nD τ).loc main_v141) = Front.gateOut (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Cert.Reference1Ideal.Value.run m ρ)
  obtain ⟨hx, hc, hq, hg, hargs⟩ := h c
  refine ⟨hx.trans ?_, hc.trans ?_, hq.trans ?_, hg.trans ?_, hargs⟩
  · rw [resid_eq]
    exact x_eq _ _ _ _ _
  · change convT (Cert.Reference1Ideal.Value.res_main_v90 (launchContents m c)) (m ((c.tc : Thread nD τ).loc main_arg9)) = _
    rw [cols_eq, inner_eq]
    exact conv_eq _ _ _ _ _ _ _
  · change qkvoT (Cert.Reference1Ideal.Value.res_main_v121 (launchContents m c)) = _
    rw [qcols_eq, inner_eq]
    exact qkvo_eq _ _ _ _ _ _
  · change gateT (Cert.Reference1Ideal.Value.res_main_v137 (launchContents m c)) = _
    rw [pre_eq, inner_eq]
    exact gate_eq _ _ _ _ _ _ _

end Run

end Cert.Reference1Ideal.Layer

end
-- ==== Proof.CtxTile.lean ====
/-
  What the body of the context tokens' kernel stores in its two tiles, from its blocks: keys and values, and the gates'
  preactivations of FrontSpec.lean. A tile here has 256 tokens, so the steps of FfnTile.lean are stated again at that height.
-/
module

public import proofs.«01_k».proof.Proof.Gen.Kernel3Ideal.Frame
public import proofs.«01_k».proof.Proof.FfnKernel
public import proofs.«01_k».proof.Proof.FrontSpec

@[expose] public section

set_option maxRecDepth 16384

noncomputable section

namespace Cert.Kernel3Ideal.Tile

open Idealize.ShloMosaic Idealize.ShloMosaic.TcCoe Idealize.SL.Sem Cert.Kernel3Ideal Cert.Kernel3Ideal.Gen
open Cert.Kernel2Ideal.Tile (row1 modRow gRow)

section Tensors

variable {F : FTy → Type} [FloatOps F]

/-- A tile of 256 tokens, normalized, times a weight row. -/
def norm (x : FVec F S256x1024 .f32) (g : FVec F S1x1024 .f32) : FVec F S256x1024 .f32 :=
  mulf (mulf x (broadcastTo S256x1024 (rsqrt (addf
    (divf (shapeCast S256x1 (multiReduction .add [1] S256 (mulf x x) 0x00000000#32 reduces_S256x1024_S256 (.inl rfl) rfl)
      shapeCasts_S256_S256x1) (broadcast S256x1 (Scalar.ofBits .f32 0x44800000#32)))
    (broadcast S256x1 (Scalar.ofBits .f32 0x358637BD#32)))) broadcasts_S256x1_S256x1024))
    (broadcastTo S256x1024 g broadcasts_S1x1024_S256x1024)

/-- Then scaled and shifted. -/
def modT (x : FVec F S256x1024 .f32) (g shift scale : FVec F S1x1024 .f32) : FVec F S256x1024 .bf16 :=
  truncf .bf16 (addf (mulf (norm x g)
    (broadcastTo S256x1024 (addf (broadcast S1x1024 (Scalar.ofBits .f32 0x3F800000#32)) scale) broadcasts_S1x1024_S256x1024))
    (broadcastTo S256x1024 shift broadcasts_S1x1024_S256x1024)) bitsLt_bf16_f32

/-- What 512 gated hidden features add to the half step. -/
def run512 (h : FVec F S256x1024 .bf16) (a b : FVec F S1024x512 .bf16) (d : FVec F S512x1024 .bf16) :
    FVec F S256x1024 .f32 :=
  have u := matmul dot_S256x1024_S1024x512_S256x512_1_0_0_1_n_n none h a (constant S256x512 .f32 0x00000000#32)
  matmul dot_S256x512_S512x1024_S256x1024_1_0_0_1_n_n none
    (truncf .bf16 (mulf (mulf u (logistic u))
      (matmul dot_S256x1024_S1024x512_S256x512_1_0_0_1_n_n none h b (constant S256x512 .f32 0x00000000#32))) bitsLt_bf16_f32)
    d (constant S256x1024 .f32 0x00000000#32)

/-- What the last 256 add. -/
def run256 (h : FVec F S256x1024 .bf16) (a b : FVec F S1024x256 .bf16) (d : FVec F S256x1024 .bf16) :
    FVec F S256x1024 .f32 :=
  have u := matmul dot_S256x1024_S1024x256_S256x256_1_0_0_1_n_n none h a (constant S256x256 .f32 0x00000000#32)
  matmul dot_S256x256_S256x1024_S256x1024_1_0_0_1_n_n none
    (truncf .bf16 (mulf (mulf u (logistic u))
      (matmul dot_S256x1024_S1024x256_S256x256_1_0_0_1_n_n none h b (constant S256x256 .f32 0x00000000#32))) bitsLt_bf16_f32)
    d (constant S256x1024 .f32 0x00000000#32)

/-- The residual after the half step. -/
def close (x acc : FVec F S256x1024 .f32) (g gate : FVec F S1x1024 .f32) : FVec F S256x1024 .f32 :=
  addf x (mulf (broadcastTo S256x1024 (mulf (broadcast S1x1024 (Scalar.ofBits .f32 0x3F000000#32)) gate)
    broadcasts_S1x1024_S256x1024) (norm acc g))

variable [Named F]

theorem mod_eq (x g) (shift scale : FVec F S1x1x1x1024 .f32) : k0_pay6 x g shift scale
    = modT (F := F) x (shapeCast S1x1024 g shapeCasts_S1x1x1024_S1x1024)
      (shapeCast S1x1024 shift shapeCasts_S1x1x1x1024_S1x1024) (shapeCast S1x1024 scale shapeCasts_S1x1x1x1024_S1x1024) := rfl

theorem run_eq0 (x g shift scale a b d a1 b1 d1 a2 b2 d2) :
    k0_pay8 (k0_pay6 (F := F) x g shift scale) (k0_pay7 x g shift scale a) b d a1 b1 d1 a2 b2 d2
      = addf (addf (run512 (k0_pay6 x g shift scale) a b d) (run512 (k0_pay6 x g shift scale) a1 b1 d1))
        (run512 (k0_pay6 x g shift scale) a2 b2 d2) := rfl

theorem run_eq1 (h acc a b d a1 b1 d1 a2 b2 d2) : k0_pay10 (F := F) h acc (k0_pay9 h a) b d a1 b1 d1 a2 b2 d2
    = addf (addf (addf acc (run512 h a b d)) (run512 h a1 b1 d1)) (run256 h a2 b2 d2) := rfl

theorem inner_eq (x g gate h acc u b d a1 b1 d1 a2 b2 d2) (g' : FVec F S1x1x1024 .f32)
    (scale shift : FVec F S1x1x1x1024 .f32) :
    k0_pay13 x g (k0_pay10 (F := F) h acc u b d a1 b1 d1 a2 b2 d2) (k0_pay11 gate)
      (k0_pay12 h acc u b d a1 b1 d1 a2 b2 d2) g' scale shift
      = modT (close x (k0_pay10 h acc u b d a1 b1 d1 a2 b2 d2) g gate)
        (shapeCast S1x1024 g' shapeCasts_S1x1x1024_S1x1024) (shapeCast S1x1024 shift shapeCasts_S1x1x1x1024_S1x1024)
        (shapeCast S1x1024 scale shapeCasts_S1x1x1x1024_S1x1024) := rfl

end Tensors

theorem norm_apply (x : FVec Ideal S256x1024 .f32) (g : FVec Ideal S1x1024 .f32) (r : Fin 256) (j : Fin 1024) :
    norm x g (ix2 r j) = Ffn.rms (fun k => x (ix2 r k)) (row1 g) j := by
  unfold norm Ffn.rms row1
  pointwise

theorem modT_apply (x : FVec Ideal S256x1024 .f32) (g shift scale : FVec Ideal S1x1024 .f32) (r : Fin 256) (j : Fin 1024) :
    modT x g shift scale (ix2 r j) = Ffn.mod (fun k => x (ix2 r k)) (row1 g) (row1 shift) (row1 scale) j := by
  unfold modT Ffn.mod
  pointwise
  rw [norm_apply]
  rfl

theorem close_apply (x acc : FVec Ideal S256x1024 .f32) (g gate : FVec Ideal S1x1024 .f32) (r : Fin 256) (j : Fin 1024) :
    close x acc g gate (ix2 r j)
      = x (ix2 r j) + Ffn.cHalf * gate (ix2 0 j) * Ffn.rms (fun k => acc (ix2 r k)) (row1 g) j := by
  unfold close
  pointwise
  rw [norm_apply]

/-- 512 hidden features, read at an index, are their part of the sum over all of them. -/
theorem run512_part {h : FVec Ideal S256x1024 .bf16} {a b : FVec Ideal S1024x512 .bf16} {d : FVec Ideal S512x1024 .bf16}
    {r : Fin 256} {j : Fin 1024} (o : ℕ) (ho : o + 512 ≤ 2816) (hr : Ffn.Row) (up : Fin 1024 → Fin 5632 → EReal)
    (dn : Fin 2816 → Ffn.Row) (hh : ∀ e, h (ix2 r e) = hr e) (ha : ∀ e k, a (ix2 e k) = up e (Ffn.lo ⟨o + k.val, by omega⟩))
    (hb : ∀ e k, b (ix2 e k) = up e (Ffn.hi ⟨o + k.val, by omega⟩)) (hd : ∀ k, d (ix2 k j) = dn ⟨o + k.val, by omega⟩ j) :
    run512 h a b d (ix2 r j) = Ffn.part (fun k => Ffn.hidden hr up k * dn k j) o 512 ho := by
  unfold run512
  pointwise
  simp only [Ffn.part, Ffn.hidden, Ffn.hid, hh, ha, hb, hd]

/-- The same for 256. -/
theorem run256_part {h : FVec Ideal S256x1024 .bf16} {a b : FVec Ideal S1024x256 .bf16} {d : FVec Ideal S256x1024 .bf16}
    {r : Fin 256} {j : Fin 1024} (o : ℕ) (ho : o + 256 ≤ 2816) (hr : Ffn.Row) (up : Fin 1024 → Fin 5632 → EReal)
    (dn : Fin 2816 → Ffn.Row) (hh : ∀ e, h (ix2 r e) = hr e) (ha : ∀ e k, a (ix2 e k) = up e (Ffn.lo ⟨o + k.val, by omega⟩))
    (hb : ∀ e k, b (ix2 e k) = up e (Ffn.hi ⟨o + k.val, by omega⟩)) (hd : ∀ k, d (ix2 k j) = dn ⟨o + k.val, by omega⟩ j) :
    run256 h a b d (ix2 r j) = Ffn.part (fun k => Ffn.hidden hr up k * dn k j) o 256 ho := by
  unfold run256
  pointwise
  simp only [Ffn.part, Ffn.hidden, Ffn.hid, hh, ha, hb, hd]

/-- The named constant is the keys' scale. -/
theorem key_scale : (Named.named (F := Ideal) Cert.Kernel3Ideal.κ "key_scale" (φ := .f32) 0x3DB504F3#32) = Front.kScale :=
  IdealRules.named_const.ideal_named_scalar _ _ _ _ rfl

section Blocks

variable (x0 : FVec Ideal S256x1024 .f32) (x1 : FVec Ideal S1x9x1x1024 .f32) (x2 : FVec Ideal S6x1x1024 .f32)
  (x3 : FVec Ideal S1024x5632 .bf16) (x4 : FVec Ideal S2816x1024 .bf16) (x5 : FVec Ideal S1024x1024 .bf16)
  (x6 : FVec Ideal S16x1024 .bf16) (x7 : FVec Ideal S16x1 .f32)

/-- The residual row after the half step, from the blocks. -/
def resid (r : Fin 256) : Ffn.Row :=
  Ffn.tile (fun k => x0 (ix2 r k)) (gRow x2 0) (gRow x2 1) (modRow x1 0) (modRow x1 1) (modRow x1 2)
    (fun e k => x3 (ix2 e k)) (fun e k => x4 (ix2 e k))

/-- The normalized and modulated residual row. -/
def inner (r : Fin 256) : Ffn.Row := Ffn.mod (resid x0 x1 x2 x3 x4 r) (gRow x2 2) (modRow x1 3) (modRow x1 4)

/-- The sum over the hidden features. -/
theorem acc_apply (r : Fin 256) (j : Fin 1024) : k0_pay19 (F := Ideal) x0 x1 x2 x3 x4 x5 x6 x7 (ix2 r j)
    = Ffn.down (Ffn.mod (fun k => x0 (ix2 r k)) (gRow x2 0) (modRow x1 0) (modRow x1 1)) (fun e k => x3 (ix2 e k))
      (fun e k => x4 (ix2 e k)) j := by
  have hh : ∀ k, k0_pay16 (F := Ideal) x0 x1 x2 x3 x4 x5 x6 x7 (ix2 r k)
      = Ffn.mod (fun k => x0 (ix2 r k)) (gRow x2 0) (modRow x1 0) (modRow x1 1) k := by
    intro k
    unfold k0_pay16
    rw [mod_eq, modT_apply]
    congr 1
    all_goals (funext i; (try unfold row1); (first | unfold gRow | unfold modRow | skip); pointwise)
  unfold k0_pay19 k0_pay18 k0_pay17
  rw [run_eq1]
  unfold k0_pay16 at hh ⊢
  rw [run_eq0]
  unfold Ffn.down
  rw [← Ffn.sum_parts]
  let up := fun (e : Fin 1024) (k : Fin 5632) => x3 (ix2 e k)
  let dn := fun (e : Fin 2816) (k : Fin 1024) => x4 (ix2 e k)
  refine congrArg₂ (· + ·) (congrArg₂ (· + ·) (congrArg₂ (· + ·) (congrArg₂ (· + ·) (congrArg₂ (· + ·)
    (run512_part 0 _ _ up dn hh ?_ ?_ ?_) (run512_part 512 _ _ up dn hh ?_ ?_ ?_)) (run512_part 1024 _ _ up dn hh ?_ ?_ ?_))
    (run512_part 1536 _ _ up dn hh ?_ ?_ ?_)) (run512_part 2048 _ _ up dn hh ?_ ?_ ?_))
    (run256_part 2560 _ _ up dn hh ?_ ?_ ?_)
  all_goals (intros; simp only [Ffn.lo, Ffn.hi, up, dn]; pointwise; blk_ext)

/-- The modulated tile that the projection reads. -/
theorem inner_apply (r : Fin 256) (j : Fin 1024) :
    k0_pay22 (F := Ideal) x0 x1 x2 x3 x4 x5 x6 x7 (ix2 r j) = inner x0 x1 x2 x3 x4 r j := by
  have ha := acc_apply x0 x1 x2 x3 x4 x5 x6 x7 r
  unfold k0_pay22 k0_pay20 k0_pay21
  unfold k0_pay19 at ha ⊢
  rw [inner_eq, modT_apply]
  simp only [close_apply, ha]
  unfold inner
  congr 1
  · funext k
    unfold resid Ffn.tile
    refine congrArg₂ (· + ·) ?_ (congrArg₂ (· * ·) (congrArg (Ffn.cHalf * ·) ?_) (congrFun (congrArg (Ffn.rms _) ?_) k))
    · pointwise
    · unfold k0_pay5 modRow
      pointwise
    · funext k
      unfold row1 k0_pay15 k0_pay4 gRow
      pointwise
  all_goals (funext i; (try unfold row1); (first | unfold gRow | unfold modRow | skip); pointwise)

/-- A token's keys and values: the keys' columns are scaled. -/
theorem stored_kv (r : Fin 256) (c : Fin 1024) : out0_8 (F := Ideal) x0 x1 x2 x3 x4 x5 x6 x7 (ix2 r c)
    = if c.val < 512 then Front.lin (inner x0 x1 x2 x3 x4 r) (fun e k => x5 (ix2 e k)) c * Front.kScale
      else Front.lin (inner x0 x1 x2 x3 x4 r) (fun e k => x5 (ix2 e k)) c := by
  have hk : ∀ (z : FVec Ideal S256x1024 .f32) g a u b g' sc sh w, k0_pay14 (F := Ideal) z g a u b g' sc sh w
      = matmul dot_S256x1024_S1024x512_S256x512_1_0_0_1_n_n none (k0_pay13 z g a u b g' sc sh) w
        (constant S256x512 .f32 0x00000000#32) := fun _ _ _ _ _ _ _ _ _ => rfl
  have hi := inner_apply x0 x1 x2 x3 x4 x5 x6 x7
  unfold k0_pay22 at hi
  rw [View.ld_unit_lit (Val := Elt Ideal) (e := .f32) (S := S256x1024) (off := ![0, 0]) inb_S256x1024_S256x1024_0_0 x0 (by decide)] at hi
  frame_out
  canon_tiles x h
  all_goals
    obtain ⟨a, s, rfl⟩ : ∃ (a : Fin 256) (s : Fin 512), x = ix2 a s :=
      ⟨x 0, x 1, by funext a; match a with | ⟨0, _⟩ => rfl | ⟨1, _⟩ => rfl⟩
    have ha : a = r := Fin.ext h0.symm
    subst ha
    obtain ⟨c, hc⟩ := c
    (first | replace h1 : c = _ + s.val := h1 | replace h1 : c = s.val := h1)
    subst h1
    (first | unfold k0_pay1 | unfold k0_pay2)
    (try rw [hk])
    pointwise
    (first | simp only [hi, key_scale] | simp only [inner_apply])
    unfold Front.lin
    rfl

theorem stored_gate (i : Fin 16) (r : Fin 256) :
    out0_9 (F := Ideal) x0 x1 x2 x3 x4 x5 x6 x7 (ix3 0 i r)
      = Front.gate (inner x0 x1 x2 x3 x4 r) (fun i e => x6 (ix2 i e)) (fun i => x7 (ix2 i 0)) i := by
  frame_out
  unfold k0_pay3
  pointwise
  simp only [inner_apply]
  unfold Front.gate Front.logSig
  by_cases h : i.val < 8
  · rw [dif_pos h, if_pos h]
  · have hi : (⟨8 + (i.val - 8), by omega⟩ : Fin 16) = i := Fin.ext (by simp only []; omega)
    rw [dif_neg h, if_neg h, hi]
    rfl

end Blocks

end Cert.Kernel3Ideal.Tile

end
-- ==== Proof.CtxOut.lean ====
/-
  The context tokens' part of the first half as functions of its eight arguments: keys and values, and the gates'
  preactivations, token by token. Row 16 of the modulation is theirs.
-/
module

public import proofs.«01_k».proof.Proof.FrontSpec
public import Idealize.ShloMosaic.Lib.Pointwise

@[expose] public section

noncomputable section

namespace Ctx

open Idealize.ShloMosaic

variable (x : FVec Ideal ⟨2, ![4096, 1024]⟩ .f32) (md : FVec Ideal ⟨4, ![24, 9, 1, 1024]⟩ .f32)
  (g : FVec Ideal ⟨3, ![6, 1, 1024]⟩ .f32) (up : FVec Ideal ⟨2, ![1024, 5632]⟩ .bf16)
  (dn : FVec Ideal ⟨2, ![2816, 1024]⟩ .bf16) (wk : FVec Ideal ⟨2, ![1024, 1024]⟩ .bf16)
  (wg : FVec Ideal ⟨2, ![16, 1024]⟩ .bf16) (bg : FVec Ideal ⟨2, ![16, 1]⟩ .f32)

/-- A context token's residual row after the half step. -/
def residRow (n : Fin 4096) : Ffn.Row :=
  Ffn.tile (fun k => x (ix2 n k)) (fun k => g (ix3 0 0 k)) (fun k => g (ix3 1 0 k)) (fun k => md (ix4 16 0 0 k))
    (fun k => md (ix4 16 1 0 k)) (fun k => md (ix4 16 2 0 k)) (fun e k => up (ix2 e k)) (fun e k => dn (ix2 e k))

/-- The row that the projection reads. -/
def innerRow (n : Fin 4096) : Ffn.Row :=
  Ffn.mod (residRow x md g up dn n) (fun k => g (ix3 2 0 k)) (fun k => md (ix4 16 3 0 k)) (fun k => md (ix4 16 4 0 k))

/-- A row's keys and values: the keys' columns are scaled. -/
def kv (h : Ffn.Row) (w : Fin 1024 → Fin 1024 → EReal) (c : Fin 1024) : EReal :=
  if c.val < 512 then Front.lin h w c * Front.kScale else Front.lin h w c

/-- Keys and values. -/
def kvOut : FVec Ideal ⟨2, ![4096, 1024]⟩ .bf16 := fun y =>
  kv (innerRow x md g up dn (y 0)) (fun e k => wk (ix2 e k)) (y 1)

/-- The token at a position of a batch element's context. -/
def token (b : Fin 16) (s : Fin 256) : Fin 4096 := ⟨b.val * 256 + s.val, by omega⟩

/-- The gates. -/
def gateOut : FVec Ideal ⟨3, ![16, 16, 256]⟩ .f32 := fun y =>
  Front.gate (innerRow x md g up dn (token (y 0) (y 2))) (fun i e => wg (ix2 i e)) (fun i => bg (ix2 i 0)) (y 1)

end Ctx

end
-- ==== Proof.CtxFinal.lean ====
/-
  The two arrays that the context tokens' kernel leaves are the functions of CtxOut.lean at its arguments: grid point `t`
  holds tokens `256 t` to `256 t + 255`, the context of batch element `t`.
-/
module

public import proofs.«01_k».proof.Proof.CtxTile
public import proofs.«01_k».proof.Proof.CtxOut

@[expose] public section

set_option maxRecDepth 16384

noncomputable section

namespace Cert.Kernel3Ideal.Tile

open Idealize.ShloMosaic Idealize.ShloMosaic.TcCoe Idealize.SL.Sem Cert.Kernel3Ideal Cert.Kernel3Ideal.Gen
open Idealize.ShloMosaic.Pipeline (Dat)
open Cert.Kernel2Ideal.Tile (modRow gRow)

variable (m : (ℓ : Loc nD τ sig) → Buf (Elt Ideal) ℓ)

/-- Which block each window shows at a grid point. -/
theorem idx : ∀ t : Fin cfg0.N, win0_0.index t = ![t.val, 0] ∧ win0_1.index t = ![16, 0, 0, 0]
    ∧ win0_2.index t = ![0, 0, 0] ∧ win0_3.index t = ![0, 0] ∧ win0_4.index t = ![0, 0] ∧ win0_5.index t = ![0, 0]
    ∧ win0_6.index t = ![0, 0] ∧ win0_7.index t = ![0, 0] ∧ win0_8.index t = ![t.val, 0]
    ∧ win0_9.index t = ![t.val, 0, 0] :=
  (by decide +kernel : ∀ t : Fin grid0.N, _)

/-- The projection's row of a tile's token. -/
theorem inner_block (c : Dev nD) (t : Fin cfg0.N) (r : Fin 256) (n : Fin 4096) (hn : n.val = t.val * 256 + r.val) :
    inner (iblk m c 0 t) (iblk m c 1 t) (iblk m c 2 t) (iblk m c 3 t) (iblk m c 4 t) r
      = Ctx.innerRow (m ((c : Thread nD τ).loc main_arg0)) (m ((c : Thread nD τ).loc main_arg1))
        (m ((c : Thread nD τ).loc main_arg2)) (m ((c : Thread nD τ).loc main_arg3)) (m ((c : Thread nD τ).loc main_arg4)) n := by
  have ht : t.val < 16 := t.isLt
  have h0 : ∀ k : Fin 1024, iblk m c 0 t (ix2 r k) = m ((c : Thread nD τ).loc main_arg0) (ix2 n k) := fun k => by
    blk_ext [iblk, V, idx t]
  have h1 : ∀ (i : Fin 9) (k : Fin 1024), iblk m c 1 t (ix4 0 i 0 k)
      = m ((c : Thread nD τ).loc main_arg1) (ix4 16 i 0 k) := fun i k => by
    blk_ext [iblk, V, idx t]
  have h2 : ∀ (i : Fin 6) (k : Fin 1024), iblk m c 2 t (ix3 i 0 k) = m ((c : Thread nD τ).loc main_arg2) (ix3 i 0 k) :=
    fun i k => by blk_ext [iblk, V, idx t]
  have h3 : ∀ (e : Fin 1024) (k : Fin 5632), iblk m c 3 t (ix2 e k) = m ((c : Thread nD τ).loc main_arg3) (ix2 e k) :=
    fun e k => by blk_ext [iblk, V, idx t]
  have h4 : ∀ (e : Fin 2816) (k : Fin 1024), iblk m c 4 t (ix2 e k) = m ((c : Thread nD τ).loc main_arg4) (ix2 e k) :=
    fun e k => by blk_ext [iblk, V, idx t]
  unfold inner resid Ctx.innerRow Ctx.residRow gRow modRow
  simp only [h0, h1, h2, h3, h4]

/-- Keys and values after the run. -/
theorem final_kv (c : Dev nD) : (dats m 0 c).arrAt 8 (cfgs 0).N
    = Ctx.kvOut (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 8 _ (by decide +kernel) fun t _ y => ?_
  blk_simp
  rw [after0_8]
  obtain ⟨r, j, rfl⟩ : ∃ (r : Fin 256) (j : Fin 1024), y = ix2 r j := ⟨y 0, y 1, by funext a; match a with | ⟨0, _⟩ => rfl | ⟨1, _⟩ => rfl⟩
  rw [stored_kv]
  unfold Ctx.kvOut
  have h5 : ∀ (e : Fin 1024) (k : Fin 1024), iblk m c 5 t (ix2 e k) = m ((c : Thread nD τ).loc main_arg5) (ix2 e k) :=
    fun e k => by blk_ext [iblk, V, idx t]
  rw [inner_block m c t r ((win0_8.blk t).view.emb (ix2 r j) 0) (by blk_simp [idx t])]
  simp only [h5]
  change Ctx.kv _ _ _ = _
  congr 1
  apply Fin.ext
  blk_simp [idx t]

/-- The gates after the run. -/
theorem final_gate (c : Dev nD) : (dats m 0 c).arrAt 9 (cfgs 0).N
    = Ctx.gateOut (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg6)) (m ((c : Thread nD τ).loc main_arg7)) := by
  refine (dats m 0 c).arrAt_eq_of_covers 9 _ (by decide +kernel) fun t _ y => ?_
  blk_simp
  rw [after0_9]
  obtain ⟨i, r, rfl⟩ : ∃ (i : Fin 16) (r : Fin 256), y = ix3 0 i r := ⟨y 1, y 2, by
    funext a; match a with | ⟨0, _⟩ => exact Subsingleton.elim (α := Fin 1) _ _ | ⟨1, _⟩ => rfl | ⟨2, _⟩ => rfl⟩
  rw [stored_gate]
  unfold Ctx.gateOut
  have h6 : ∀ (e : Fin 16) (k : Fin 1024), iblk m c 6 t (ix2 e k) = m ((c : Thread nD τ).loc main_arg6) (ix2 e k) :=
    fun e k => by blk_ext [iblk, V, idx t]
  have h7 : ∀ e : Fin 16, iblk m c 7 t (ix2 e 0) = m ((c : Thread nD τ).loc main_arg7) (ix2 e 0) :=
    fun e => by blk_ext [iblk, V, idx t]
  generalize hb : (win0_9.blk t).view.emb (ix3 0 i r) 0 = b
  generalize hi : (win0_9.blk t).view.emb (ix3 0 i r) 1 = i'
  generalize hs : (win0_9.blk t).view.emb (ix3 0 i r) 2 = s
  replace hb : b.val = t.val := by rw [← hb]; blk_simp [idx t]; rfl
  replace hi : i' = i := by rw [← hi]; apply Fin.ext; blk_simp [idx t]
  replace hs : s.val = r.val := by rw [← hs]; blk_simp [idx t]
  rw [inner_block m c t r (Ctx.token b s) (by simp only [Ctx.token]; omega)]
  simp only [h6, h7, hi]

/-- The kernel leaves the two functions in its results and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = Ctx.kvOut (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5))
      ∧ r.2.mem ((c.tc : Thread nD τ).loc main_v0_1) = Ctx.gateOut (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => ⟨((h.1 c).1 8).trans (final_kv m c), ((h.1 c).1 9).trans (final_gate m c), h.2 c⟩)
    (θ_run_and (run_main m ρ) (unchanged m ρ))

end Cert.Kernel3Ideal.Tile

end
-- ==== Proof.CtxRef.lean ====
/-
  The context tokens' reference, cut at the residual stream, the row the projection reads and its columns, and read at an
  index: the functions of CtxOut.lean. The stages are FrontRef.lean's at 256 tokens a batch element, with one modulation row.
-/
module

public import proofs.«01_k».proof.Proof.Gen.Reference3Ideal.Run
public import proofs.«01_k».proof.Proof.FrontRef
public import proofs.«01_k».proof.Proof.CtxOut

@[expose] public section

set_option maxRecDepth 16384

noncomputable section

namespace Cert.Reference3Ideal.Layer

open Idealize.ShloMosaic Idealize.ShloMosaic.TcCoe Idealize.SL.Sem Cert.Reference3Ideal Cert.Reference3Ideal.Gen
open Idealize.ShloMosaic.StableHlo

section Tensors

variable {F : FTy → Type} [FloatOps F]

/-- A row over every context token. -/
def spread (x : FVec F S1024 .f32) : FVec F S16x256x1024 .f32 :=
  broadcastInDim S16x256x1024 ![0, 1, 2] bcast_S1x1x1024_S16x256x1024_0_1_2
    (broadcastInDim S1x1x1024 ![2] bcast_S1024_S1x1x1024_2 x)

/-- A part of the context's modulation. -/
def part (i : ℕ) (md : FVec F S24x9x1x1024 .f32) (h : S9x1024.Slices ![i, 0] S1x1024) : FVec F S1024 .f32 :=
  shapeCast S1024 (extractStridedSlice S1x1024 ![i, 0] (shapeCast S9x1024 (shapeCast S9x1x1024
    (extractStridedSlice S1x9x1x1024 ![16, 0, 0, 0] md slices_S24x9x1x1024_S1x9x1x1024_16_0_0_0)
    shapeCasts_S1x9x1x1024_S9x1x1024) shapeCasts_S9x1x1024_S9x1024) h) shapeCasts_S1x1024_S1024

/-- A weight of the norms. -/
def weight (i : ℕ) (g : FVec F S6x1x1024 .f32) (h : S6x1024.Slices ![i, 0] S1x1024) : FVec F S1024 .f32 :=
  shapeCast S1024 (extractStridedSlice S1x1024 ![i, 0] (shapeCast S6x1024 g shapeCasts_S6x1x1024_S6x1024) h)
    shapeCasts_S1x1024_S1024

/-- The normalization with a weight. -/
def norm (x : FVec F S16x256x1024 .f32) (g : FVec F S1024 .f32) : FVec F S16x256x1024 .f32 :=
  mulf (mulf x (broadcastInDim S16x256x1024 ![0, 1, 2] bcast_S16x256x1_S16x256x1024_0_1_2 (Host.rsqrt (addf
    (Host.divf (broadcastInDim S16x256x1 ![0, 1] bcast_S16x256_S16x256x1_0_1
        (Host.reduceAdd (mulf x x) (constant S_ .f32 0x00000000#32) reducesTo_S16x256x1024_S16x256_d2 h_S_))
      (broadcastInDim S16x256x1 ![] bcast_S_S16x256x1 (constant S_ .f32 0x44800000#32)))
    (broadcastInDim S16x256x1 ![] bcast_S_S16x256x1 (constant S_ .f32 0x358637BD#32)))))) (spread g)

/-- The normalized stream, scaled and shifted. -/
def modT (x : FVec F S16x256x1024 .f32) (shift scale g : FVec F S1024 .f32) : FVec F S16x256x1024 .f32 :=
  addf (mulf (norm x g) (spread (addf (broadcastInDim S1024 ![] bcast_S_S1024 (constant S_ .f32 0x3F800000#32)) scale)))
    (spread shift)

/-- The gated hidden features' down projection. -/
def stepT (h : FVec F S16x256x1024 .f32) (wu : FVec F S1024x5632 .bf16) (wd : FVec F S2816x1024 .bf16) :
    FVec F S16x256x1024 .f32 :=
  have u := Host.dotGeneral dot_S16x256x1024_S1024x5632_S16x256x5632_2_0_01_1_n_n none h (extf .f32 wu bitsLt_bf16_f32)
  have a := extractStridedSlice S16x256x2816 ![0, 0, 0] u slices_S16x256x5632_S16x256x2816_0_0_0
  Host.dotGeneral dot_S16x256x2816_S2816x1024_S16x256x1024_2_0_01_1_n_n none
    (mulf (mulf a (Host.divf (broadcastInDim S16x256x2816 ![] bcast_S_S16x256x2816 (constant S_ .f32 0x3F800000#32))
      (addf (broadcastInDim S16x256x2816 ![] bcast_S_S16x256x2816 (constant S_ .f32 0x3F800000#32))
        (Host.exp (Host.negf a)))))
      (extractStridedSlice S16x256x2816 ![0, 0, 2816] u slices_S16x256x5632_S16x256x2816_0_0_2816))
    (extf .f32 wd bitsLt_bf16_f32)

/-- The half step's close. -/
def closeT (x y : FVec F S16x256x1024 .f32) (gate g : FVec F S1024 .f32) : FVec F S16x256x1024 .f32 :=
  addf x (mulf (spread (mulf (broadcastInDim S1024 ![] bcast_S_S1024 (constant S_ .f32 0x3F000000#32)) gate)) (norm y g))

/-- The tokens by batch element. -/
def streamT (x : FVec F S4096x1024 .f32) : FVec F S16x256x1024 .f32 :=
  shapeCast S16x256x1024 x shapeCasts_S4096x1024_S16x256x1024

/-- The residual stream after the half step. -/
def residT (x : FVec F S4096x1024 .f32) (md : FVec F S24x9x1x1024 .f32) (g : FVec F S6x1x1024 .f32)
    (wu : FVec F S1024x5632 .bf16) (wd : FVec F S2816x1024 .bf16) : FVec F S16x256x1024 .f32 :=
  closeT (streamT x) (stepT (modT (streamT x) (part 0 md slices_S9x1024_S1x1024_0_0) (part 1 md slices_S9x1024_S1x1024_1_0)
    (weight 0 g slices_S6x1024_S1x1024_0_0)) wu wd) (part 2 md slices_S9x1024_S1x1024_2_0)
    (weight 1 g slices_S6x1024_S1x1024_1_0)

/-- The stream that the projection reads. -/
def innerT (x : FVec F S4096x1024 .f32) (md : FVec F S24x9x1x1024 .f32) (g : FVec F S6x1x1024 .f32)
    (wu : FVec F S1024x5632 .bf16) (wd : FVec F S2816x1024 .bf16) : FVec F S16x256x1024 .f32 :=
  modT (residT x md g wu wd) (part 3 md slices_S9x1024_S1x1024_3_0) (part 4 md slices_S9x1024_S1x1024_4_0)
    (weight 2 g slices_S6x1024_S1x1024_2_0)

/-- The columns of keys and values. -/
def colsT (h : FVec F S16x256x1024 .f32) (w : FVec F S1024x1024 .bf16) : FVec F S16x256x1024 .f32 :=
  Host.dotGeneral dot_S16x256x1024_S1024x1024_S16x256x1024_2_0_01_1_n_n none h (extf .f32 w bitsLt_bf16_f32)

/-- The same with the keys divided by the root of the head's width. -/
def kvT (p : FVec F S16x256x1024 .f32) : FVec F S4096x1024 .bf16 :=
  shapeCast S4096x1024 (truncf .bf16 (concatenate S16x256x1024 2
    [⟨S16x256x512, Host.divf (extractStridedSlice S16x256x512 ![0, 0, 0] p slices_S16x256x1024_S16x256x512_0_0_0)
        (broadcastInDim S16x256x512 ![] bcast_S_S16x256x512 (Host.sqrt (constant S_ .f32 0x43000000#32)))⟩,
     ⟨S16x256x512, extractStridedSlice S16x256x512 ![0, 0, 512] p slices_S16x256x1024_S16x256x512_0_0_512⟩]
    concatenates_S16x256x512_S16x256x512_S16x256x1024_d2) bitsLt_bf16_f32) shapeCasts_S16x256x1024_S4096x1024

/-- The gates' preactivations. -/
def preT (h : FVec F S16x256x1024 .f32) (w : FVec F S16x1024 .bf16) (b : FVec F S16x1 .f32) : FVec F S16x16x256 .f32 :=
  transpose S16x16x256 [0, 2, 1] (addf (Host.dotGeneral dot_S16x256x1024_S1024x16_S16x256x16_2_0_01_1_n_n none h
      (transpose S1024x16 [1, 0] (extf .f32 w bitsLt_bf16_f32) transposes_S16x1024_S1024x16_1_0))
    (broadcastInDim S16x256x16 ![0, 1, 2] bcast_S1x1x16_S16x256x16_0_1_2
      (broadcastInDim S1x1x16 ![2] bcast_S16_S1x1x16_2 (shapeCast S16 b shapeCasts_S16x1_S16))))
    transposes_S16x256x16_S16x16x256_0_2_1

/-- The logarithm of the logistic function. -/
def logSigT (x : FVec F S16x8x256 .f32) : FVec F S16x8x256 .f32 :=
  have z := broadcastInDim S16x8x256 ![] bcast_S_S16x8x256 (constant S_ .f32 0x00000000#32)
  have d := subf (Host.negf x) z
  Host.negf (select (cmpf .une d d) (addf (Host.negf x) z)
    (addf (maximumf (Host.negf x) z) (Host.log1p (Host.exp (Host.negf (Host.absf d))))))

/-- The gates. -/
def gateT (p : FVec F S16x16x256 .f32) : FVec F S16x16x256 .f32 :=
  concatenate S16x16x256 1 [⟨S16x8x256, extractStridedSlice S16x8x256 ![0, 0, 0] p slices_S16x16x256_S16x8x256_0_0_0⟩,
    ⟨S16x8x256, logSigT (extractStridedSlice S16x8x256 ![0, 8, 0] p slices_S16x16x256_S16x8x256_0_8_0)⟩]
    concatenates_S16x8x256_S16x8x256_S16x16x256_d1

end Tensors

/-- The batch element of a context token. -/
abbrev bOf (n : Fin 4096) : Fin 16 := ⟨n.val / 256, by omega⟩

/-- Its position there. -/
abbrev sOf (n : Fin 4096) : Fin 256 := ⟨n.val % 256, by omega⟩

theorem part_apply (i : ℕ) (hi : i < 9) (md : FVec Ideal S24x9x1x1024 .f32) (h) (k : Fin 1024) :
    part i md h (ix1 k) = md (ix4 16 ⟨i, hi⟩ 0 k) := by
  unfold part
  pointwise
  blk_ext

theorem weight_apply (i : ℕ) (hi : i < 6) (g : FVec Ideal S6x1x1024 .f32) (h) (k : Fin 1024) :
    weight i g h (ix1 k) = g (ix3 ⟨i, hi⟩ 0 k) := by
  unfold weight
  pointwise
  blk_ext

theorem norm_apply (x : FVec Ideal S16x256x1024 .f32) (g : FVec Ideal S1024 .f32) (b : Fin 16) (s : Fin 256) (j : Fin 1024) :
    norm x g (ix3 b s j) = Ffn.rms (fun k => x (ix3 b s k)) (fun k => g (ix1 k)) j := by
  unfold norm Ffn.rms spread
  pointwise

theorem modT_apply (x : FVec Ideal S16x256x1024 .f32) (shift scale g : FVec Ideal S1024 .f32) (b : Fin 16) (s : Fin 256)
    (j : Fin 1024) : modT x shift scale g (ix3 b s j) = Ffn.mod (fun k => x (ix3 b s k)) (fun k => g (ix1 k))
      (fun k => shift (ix1 k)) (fun k => scale (ix1 k)) j := by
  unfold modT Ffn.mod
  pointwise [spread]
  rw [norm_apply]

theorem closeT_apply (x y : FVec Ideal S16x256x1024 .f32) (gate g : FVec Ideal S1024 .f32) (b : Fin 16) (s : Fin 256)
    (j : Fin 1024) : closeT x y gate g (ix3 b s j) = x (ix3 b s j)
      + Ffn.cHalf * gate (ix1 j) * Ffn.rms (fun k => y (ix3 b s k)) (fun k => g (ix1 k)) j := by
  unfold closeT
  pointwise [spread]
  rw [norm_apply]

theorem step_apply (h : FVec Ideal S16x256x1024 .f32) (wu : FVec Ideal S1024x5632 .bf16) (wd : FVec Ideal S2816x1024 .bf16)
    (b : Fin 16) (s : Fin 256) (j : Fin 1024) : stepT h wu wd (ix3 b s j)
      = Ffn.down (fun k => h (ix3 b s k)) (fun e k => wu (ix2 e k)) (fun e k => wd (ix2 e k)) j := by
  unfold stepT Ffn.down Ffn.hidden Ffn.hid
  pointwise
  rfl

section Args

variable (x : FVec Ideal S4096x1024 .f32) (md : FVec Ideal S24x9x1x1024 .f32) (g : FVec Ideal S6x1x1024 .f32)
  (wu : FVec Ideal S1024x5632 .bf16) (wd : FVec Ideal S2816x1024 .bf16)

theorem inner_apply (n : Fin 4096) (j : Fin 1024) :
    innerT x md g wu wd (ix3 (bOf n) (sOf n) j) = Ctx.innerRow x md g wu wd n j := by
  have hx : ∀ k, streamT x (ix3 (bOf n) (sOf n) k) = x (ix2 n k) := fun k => by
    unfold streamT
    pointwise
    blk_ext [bOf, sOf]
  unfold innerT Ctx.innerRow residT Ctx.residRow
  simp only [modT_apply, closeT_apply, step_apply, hx]
  simp only [part_apply 0 (by decide), part_apply 1 (by decide), part_apply 2 (by decide), part_apply 3 (by decide),
    part_apply 4 (by decide), weight_apply 0 (by decide), weight_apply 1 (by decide), weight_apply 2 (by decide)]
  rfl

end Args

theorem kv_apply (h : FVec Ideal S16x256x1024 .f32) (w : FVec Ideal S1024x1024 .bf16) (n : Fin 4096) (c : Fin 1024) :
    kvT (colsT h w) (ix2 n c) = Ctx.kv (fun k => h (ix3 (bOf n) (sOf n) k)) (fun e k => w (ix2 e k)) c := by
  unfold kvT colsT Ctx.kv Front.lin
  pointwise
  by_cases h1 : c.val < 512
  · rw [dif_pos h1, if_pos h1]
    exact Front.div_root _
  · have e : (⟨512 + (c.val - 512), by omega⟩ : Fin 1024) = c := Fin.ext (by simp only []; omega)
    rw [dif_neg h1, if_neg h1, e]

theorem gate_apply (h : FVec Ideal S16x256x1024 .f32) (w : FVec Ideal S16x1024 .bf16) (bg : FVec Ideal S16x1 .f32)
    (b i : Fin 16) (s : Fin 256) : gateT (preT h w bg) (ix3 b i s)
      = Front.gate (fun k => h (ix3 b s k)) (fun i e => w (ix2 i e)) (fun i => bg (ix2 i 0)) i := by
  unfold gateT logSigT preT
  pointwise
  unfold Front.gate
  by_cases hi : i.val < 8
  · rw [dif_pos hi, if_pos hi]
    simp only [mul_comm]
  · have e : (⟨8 + (i.val - 8), by omega⟩ : Fin 16) = i := Fin.ext (by simp only []; omega)
    rw [dif_neg hi]
    simp only [if_neg hi, e, ne_eq, not_true_eq_false, if_false, Ideal.absf_def, Cert.Reference1Ideal.Layer.logSig_eq, mul_comm]

section Results

variable (x : FVec Ideal S4096x1024 .f32) (md : FVec Ideal S24x9x1x1024 .f32) (g : FVec Ideal S6x1x1024 .f32)
  (wu : FVec Ideal S1024x5632 .bf16) (wd : FVec Ideal S2816x1024 .bf16)

theorem kv_eq (w : FVec Ideal S1024x1024 .bf16) :
    kvT (colsT (innerT x md g wu wd) w) = Ctx.kvOut x md g wu wd w := by
  funext y
  obtain ⟨n, j, rfl⟩ : ∃ n j, y = ix2 n j := ⟨y 0, y 1, by funext a; match a with | ⟨0, _⟩ => rfl | ⟨1, _⟩ => rfl⟩
  rw [kv_apply]
  simp only [inner_apply]
  rfl

theorem gate_eq (w : FVec Ideal S16x1024 .bf16) (bg : FVec Ideal S16x1 .f32) :
    gateT (preT (innerT x md g wu wd) w bg) = Ctx.gateOut x md g wu wd w bg := by
  funext y
  obtain ⟨b, i, s, rfl⟩ : ∃ b i s, y = ix3 b i s := ⟨y 0, y 1, y 2, by
    funext a; match a with | ⟨0, _⟩ => rfl | ⟨1, _⟩ => rfl | ⟨2, _⟩ => rfl⟩
  have hb : bOf (Ctx.token b s) = b := Fin.ext (by simp only [Ctx.token]; omega)
  have hs : sOf (Ctx.token b s) = s := Fin.ext (by simp only [Ctx.token]; omega)
  have hr := fun k => inner_apply x md g wu wd (Ctx.token b s) k
  rw [hb, hs] at hr
  rw [gate_apply]
  simp only [hr]
  rfl

end Results

section Runs

variable {F : FTy → Type} [FloatOps F] (m : (ℓ : Loc nD τ sig) → Buf (Elt F) ℓ) (c : Dev nD)

set_option maxHeartbeats 4000000 in
theorem inner_eq : Cert.Reference3Ideal.Value.res_main_v89 (launchContents m c)
    = innerT (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := rfl

set_option maxHeartbeats 4000000 in
theorem cols_eq : Cert.Reference3Ideal.Value.res_main_v91 (launchContents m c)
    = colsT (Cert.Reference3Ideal.Value.res_main_v89 (launchContents m c)) (m ((c.tc : Thread nD τ).loc main_arg5)) := rfl

set_option maxHeartbeats 4000000 in
theorem pre_eq : Cert.Reference3Ideal.Value.res_main_v105 (launchContents m c)
    = preT (Cert.Reference3Ideal.Value.res_main_v89 (launchContents m c)) (m ((c.tc : Thread nD τ).loc main_arg6))
      (m ((c.tc : Thread nD τ).loc main_arg7)) := rfl

end Runs

/-- The reference leaves the two functions in its results and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v111) = Ctx.kvOut (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5))
      ∧ r.2.mem ((c.tc : Thread nD τ).loc main_v109) = Ctx.gateOut (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (Cert.Reference3Ideal.Value.run m ρ)
  obtain ⟨hk, hg, hargs⟩ := h c
  refine ⟨hk.trans ?_, hg.trans ?_, hargs⟩
  · change kvT (Cert.Reference3Ideal.Value.res_main_v91 (launchContents m c)) = _
    rw [cols_eq, inner_eq]
    exact kv_eq _ _ _ _ _ _
  · change gateT (Cert.Reference3Ideal.Value.res_main_v105 (launchContents m c)) = _
    rw [pre_eq, inner_eq]
    exact gate_eq _ _ _ _ _ _ _

end Cert.Reference3Ideal.Layer

end
-- ==== Proof.CondOut.lean ====
/-
  The modulation as one function of its three arguments: at row `r` and column `n`, the product of the row through its own
  logistic gate with the column of the weight, and the column's bias.
-/
module

public import Idealize.ShloMosaic.Lib.Pointwise

@[expose] public section

namespace Cond

open Idealize.ShloMosaic

/-- A number through its own logistic gate. -/
noncomputable def gated (x : EReal) : EReal := x * Ideal.logistic x

/-- The modulation's entry from a row, a column of the weight and a bias. -/
noncomputable def entry (x w : Fin 1024 → EReal) (b : EReal) : EReal := (∑ e, gated (x e) * w e) + b

/-- The modulation. -/
noncomputable def result (cv : FVec Ideal ⟨2, ![24, 1024]⟩ .f32) (w : FVec Ideal ⟨2, ![1024, 9216]⟩ .f32)
    (b : FVec Ideal ⟨1, ![9216]⟩ .f32) : FVec Ideal ⟨2, ![24, 9216]⟩ .f32 :=
  fun y => entry (fun e => cv (ix2 (y 0) e)) (fun e => w (ix2 e (y 1))) (b (ix1 (y 1)))

end Cond

end
-- ==== Proof.CondFinal.lean ====
/-
  The modulation kernel's result array after its run is the function of CondOut.lean at its arguments: grid point `t` makes
  columns `1024 t` to `1024 t + 1023`, all rows.
-/
module

public import proofs.«01_k».proof.Proof.Gen.Kernel4Ideal.Frame
public import proofs.«01_k».proof.Proof.CondOut
public import Idealize.ShloMosaic.Lib.Pipeline.ValueKit
public import Idealize.ShloMosaic.Lib.StableHlo.Run

@[expose] public section

set_option maxRecDepth 16384

noncomputable section

namespace Cert.Kernel4Ideal.Tile

open Idealize.ShloMosaic Idealize.ShloMosaic.TcCoe Idealize.SL.Sem Cert.Kernel4Ideal Cert.Kernel4Ideal.Gen
open Idealize.ShloMosaic.Pipeline (Dat)

/-- What a grid point stores, read at an index. -/
theorem stored (x0 : FVec Ideal S24x1024 .f32) (x1 : FVec Ideal S1024x1024 .f32) (x2 : FVec Ideal S1x1024 .f32)
    (r : Fin 24) (j : Fin 1024) :
    out0_3 (F := Ideal) x0 x1 x2 (ix2 r j)
      = Cond.entry (fun e => x0 (ix2 r e)) (fun e => x1 (ix2 e j)) (x2 (ix2 0 j)) := by
  frame_out
  unfold k0_pay1 Cond.entry Cond.gated
  pointwise

variable (m : (ℓ : Loc nD τ sig) → Buf (Elt Ideal) ℓ)

/-- The bias as the call finds it: one row. -/
theorem bias (c : Dev nD) : V m c main_v0
    = shapeCast S1x9216 (m ((c : Thread nD τ).loc main_arg2) : FVec Ideal S9216 .f32) shapeCasts_S9216_S1x9216 := by
  simp only [V, hostOps0]
  after_results
  rfl

/-- Its entries are those of the argument. -/
theorem bias_apply (c : Dev nD) (n : Fin 9216) : V m c main_v0 (ix2 0 n) = m ((c : Thread nD τ).loc main_arg2) (ix1 n) := by
  rw [bias]
  refine shapeCast_apply (s := S9216) (t := S1x9216) _ _ _ (ix1 n) ?_
  rw [Shape.rowMajor_val_one, Shape.rowMajor_val_two]
  simp [ix1, ix2]

/-- Which block each window shows at a grid point. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The result array after the run. -/
theorem final (c : Dev nD) : (dats m 0 c).arrAt 3 (cfgs 0).N
    = Cond.result (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  obtain ⟨r, j, rfl⟩ : ∃ (r : Fin 24) (j : Fin 1024), y = ix2 r j := ⟨y 0, y 1, by funext a; match a with | ⟨0, _⟩ => rfl | ⟨1, _⟩ => rfl⟩
  rw [stored]
  unfold Cond.result
  generalize hr : (win0_3.blk t).view.emb (ix2 r j) 0 = r'
  generalize hn : (win0_3.blk t).view.emb (ix2 r j) 1 = n
  have hr' : r' = r := by rw [← hr]; apply Fin.ext; blk_simp [idx t]
  have hn' : n.val = t.val * 1024 + j.val := by rw [← hn]; blk_simp [idx t]
  have h0 : ∀ k : Fin 1024, iblk m c 0 t (ix2 r k) = m ((c : Thread nD τ).loc main_arg0) (ix2 r k) := fun k => by
    rw [← V_main_arg0 m c]
    blk_ext [iblk, idx t]
  have h1 : ∀ k : Fin 1024, iblk m c 1 t (ix2 k j) = m ((c : Thread nD τ).loc main_arg1) (ix2 k n) := fun k => by
    rw [← V_main_arg1 m c]
    blk_ext [iblk, idx t]
  have h2 : iblk m c 2 t (ix2 0 j) = m ((c : Thread nD τ).loc main_arg2) (ix1 n) := by
    refine Eq.trans ?_ (bias_apply m c n)
    blk_ext [iblk, idx t]
  simp only [h0, h1, h2, hr']

/-- The kernel leaves the function in its result and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = Cond.result (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨((h.1 c).1 3).trans (final m c), h.2 c⟩) (θ_run_and (run_main m ρ) (unchanged m ρ))

end Cert.Kernel4Ideal.Tile

end
-- ==== Proof.CondRef.lean ====
/-
  The reference's modulation, read at an index, is the function of CondOut.lean.
-/
module

public import proofs.«01_k».proof.Proof.Gen.Reference4Ideal.Run
public import proofs.«01_k».proof.Proof.CondOut

@[expose] public section

set_option maxRecDepth 16384

noncomputable section

namespace Cert.Reference4Ideal.Layer

open Idealize.ShloMosaic Idealize.ShloMosaic.TcCoe Idealize.SL.Sem Cert.Reference4Ideal Cert.Reference4Ideal.Gen

/-- The reference's term. -/
def term {F : FTy → Type} [FloatOps F] (cv : FVec F S24x1024 .f32) (w : FVec F S1024x9216 .f32) (b : FVec F S9216 .f32) :
    FVec F S24x9216 .f32 :=
  addf (Host.dotGeneral dot_S24x1024_S1024x9216_S24x9216_1_0_0_1_n_n none (mulf cv (Host.divf
      (broadcastInDim S24x1024 ![] bcast_S_S24x1024 (constant S_ .f32 0x3F800000#32))
      (addf (broadcastInDim S24x1024 ![] bcast_S_S24x1024 (constant S_ .f32 0x3F800000#32)) (Host.exp (Host.negf cv))))) w)
    (broadcastInDim S24x9216 ![0, 1] bcast_S1x9216_S24x9216_0_1 (broadcastInDim S1x9216 ![1] bcast_S9216_S1x9216_1 b))

theorem term_eq (cv : FVec Ideal S24x1024 .f32) (w : FVec Ideal S1024x9216 .f32) (b : FVec Ideal S9216 .f32) :
    term cv w b = Cond.result cv w b := by
  funext y
  obtain ⟨r, n, rfl⟩ : ∃ (r : Fin 24) (n : Fin 9216), y = ix2 r n :=
    ⟨y 0, y 1, by funext a; match a with | ⟨0, _⟩ => rfl | ⟨1, _⟩ => rfl⟩
  unfold term Cond.result Cond.entry Cond.gated Ideal.logistic
  pointwise

/-- The reference leaves the function in its result and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = Cond.result (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (term_eq _ _ _), (h c).2⟩) (Cert.Reference4Ideal.Value.run m ρ)

end Cert.Reference4Ideal.Layer

end
-- ==== Proof.lean ====
/-
  The claim: the runs of the printed programs and of their references, and the functions that each kernel and its
  reference leave in their results.
-/
module

public import proofs.«01_k».proof.Defs
public import proofs.«01_k».proof.Proof.Gen.Kernel1
public import proofs.«01_k».proof.Proof.Gen.Kernel1.Frame
public import proofs.«01_k».proof.Proof.Gen.Kernel1Ideal
public import proofs.«01_k».proof.Proof.Gen.Kernel1Ideal.Frame
public import proofs.«01_k».proof.Proof.Gen.Reference1Ideal
public import proofs.«01_k».proof.Proof.Gen.Reference1Ideal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.FfnFinal
public import proofs.«01_k».proof.Proof.FfnRef
public import proofs.«01_k».proof.Proof.FrontFinal
public import proofs.«01_k».proof.Proof.FrontRef
public import proofs.«01_k».proof.Proof.CtxFinal
public import proofs.«01_k».proof.Proof.CtxRef
public import proofs.«01_k».proof.Proof.CondFinal
public import proofs.«01_k».proof.Proof.CondRef
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

theorem frame1 : Cert.quiescent_Kernel1 := fun m ρ _ => Cert.Kernel1.Gen.frame m ρ

theorem frame1Ideal : Cert.quiescent_Kernel1Ideal := fun m ρ _ => Cert.Kernel1Ideal.Gen.frame m ρ

theorem frameRef1 : Cert.quiescent_Reference1Ideal := fun m ρ _ =>
  (θ_run _ _ _).mono (fun r h => ⟨fun c => (h c).2.2.2.2, sem_eq_zero_of_no_sems rfl r.2⟩)
    (Cert.Reference1Ideal.Value.run m ρ)

theorem algebraic1 : Cert.algebraic_Kernel1Ideal_Reference1Ideal := by
  intro m g m' g' _ hagree
  refine ⟨_, _, _, _, Cert.Kernel1Ideal.Tile.run m g, ?_⟩
  refine (θ_run _ _ _).mono (fun r h c => ?_) (Cert.Reference1Ideal.Layer.run m' g')
  obtain ⟨hx, hc, hq, hg, hargs⟩ := h c
  obtain ⟨h0, h1, h2, h3, h4, h5, h6, h7, h8, h9⟩ := hagree c
  rw [h0, h1, h2, h3, h4] at hx
  rw [h0, h1, h2, h3, h4, h5, h9] at hc
  rw [h0, h1, h2, h3, h4, h6] at hq
  rw [h0, h1, h2, h3, h4, h7, h8] at hg
  exact ⟨hx, hc, hq, hg, hargs⟩

theorem frame2 : Cert.quiescent_Kernel2 := fun m ρ _ => Cert.Kernel2.Gen.frame m ρ

theorem frame2Ideal : Cert.quiescent_Kernel2Ideal := fun m ρ _ => Cert.Kernel2Ideal.Gen.frame m ρ

theorem frameRef2 : Cert.quiescent_Reference2Ideal := fun m ρ _ =>
  (θ_run _ _ _).mono (fun r h => ⟨fun c => (h c).2, sem_eq_zero_of_no_sems rfl r.2⟩) (Cert.Reference2Ideal.Value.run m ρ)

theorem algebraic2 : Cert.algebraic_Kernel2Ideal_Reference2Ideal := by
  pair_intro
  · run_from Cert.Kernel2Ideal.Gen.run_main m g
  · run_from Cert.Reference2Ideal.Value.run m' g'
    rw [Cert.Kernel2Ideal.Tile.final m c, Cert.Reference2Ideal.Layer.res_eq, Cert.Reference2Ideal.Layer.layer_eq]
    obtain ⟨h0, h1, h2, h3, h4, h5, h6, h7⟩ := hagree c
    rw [h0, h1, h2, h3, h4, h5, h6, h7]

theorem frame3 : Cert.quiescent_Kernel3 := fun m ρ _ => Cert.Kernel3.Gen.frame m ρ

theorem frame3Ideal : Cert.quiescent_Kernel3Ideal := fun m ρ _ => Cert.Kernel3Ideal.Gen.frame m ρ

theorem frameRef3 : Cert.quiescent_Reference3Ideal := fun m ρ _ =>
  (θ_run _ _ _).mono (fun r h => ⟨fun c => (h c).2.2, sem_eq_zero_of_no_sems rfl r.2⟩) (Cert.Reference3Ideal.Value.run m ρ)

theorem algebraic3 : Cert.algebraic_Kernel3Ideal_Reference3Ideal := by
  intro m g m' g' _ hagree
  refine ⟨_, _, Cert.Kernel3Ideal.Tile.run m g, ?_⟩
  refine (θ_run _ _ _).mono (fun r h c => ?_) (Cert.Reference3Ideal.Layer.run m' g')
  obtain ⟨hk, hg, hargs⟩ := h c
  obtain ⟨h0, h1, h2, h3, h4, h5, h6, h7⟩ := hagree c
  rw [h0, h1, h2, h3, h4, h5] at hk
  rw [h0, h1, h2, h3, h4, h6, h7] at hg
  exact ⟨hk, hg, hargs⟩

theorem frame4 : Cert.quiescent_Kernel4 := fun m ρ _ => Cert.Kernel4.Gen.frame m ρ

theorem frame4Ideal : Cert.quiescent_Kernel4Ideal := fun m ρ _ => Cert.Kernel4Ideal.Gen.frame m ρ

theorem frameRef4 : Cert.quiescent_Reference4Ideal := fun m ρ _ =>
  (θ_run _ _ _).mono (fun r h => ⟨fun c => (h c).2, sem_eq_zero_of_no_sems rfl r.2⟩) (Cert.Reference4Ideal.Value.run m ρ)

theorem algebraic4 : Cert.algebraic_Kernel4Ideal_Reference4Ideal := by
  intro m g m' g' _ hagree
  refine ⟨_, Cert.Kernel4Ideal.Tile.run m g, ?_⟩
  refine (θ_run _ _ _).mono (fun r h c => ?_) (Cert.Reference4Ideal.Layer.run m' g')
  obtain ⟨hr, hargs⟩ := h c
  obtain ⟨h0, h1, h2⟩ := hagree c
  rw [h0, h1, h2] at hr
  exact ⟨hr, hargs⟩

/-- The first kernel's table gives the named constant its value. -/
theorem preserves1 : Cert.preserves_Kernel1_Kernel1Ideal :=
  IdealRules.named_const.statement Cert.Kernel1Ideal.κ "key_scale" .f32 0x3DB504F3#32 (((Real.sqrt 128)⁻¹ : ℝ) : EReal) rfl

/-- So does that of the context tokens' kernel. -/
theorem preserves3 : Cert.preserves_Kernel3_Kernel3Ideal :=
  IdealRules.named_const.statement Cert.Kernel3Ideal.κ "key_scale" .f32 0x3DB504F3#32 (((Real.sqrt 128)⁻¹ : ℝ) : EReal) rfl

theorem claim : Cert.Claim := ⟨Cert.Kernel1.Gen.facts, Cert.Kernel1Ideal.Gen.facts, Cert.Reference1Ideal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  frame1, frame1Ideal, frameRef1, frame2, frame2Ideal, frameRef2, frame3, frame3Ideal, frameRef3,
  frame4, frame4Ideal, frameRef4, preserves1, algebraic1, trivial, algebraic2, preserves3, algebraic3, trivial, algebraic4⟩

end Cert.Proof

end
